-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cosines_and_labels [hPre_cosines_and_labels : Cert.Pre_cosines_and_labels.Facts] (m : (ℓ : Loc Cert.KernelIdeal.nD Cert.KernelIdeal.τ Cert.KernelIdeal.sig) → Buf (Elt Ideal) ℓ) : Prop :=
  ∀ c : Dev Cert.KernelIdeal.nD,
    (Cert.Pre_cosines_and_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cosines_and_labels [hPre_cosines_and_labels : Cert.Pre_cosines_and_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cosines_and_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_cosines_and_labels [hKernelIdeal : Cert.KernelIdeal.Facts] [hPre_cosines_and_labels : Cert.Pre_cosines_and_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cosines_and_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_cosines_and_labels [hReferenceIdeal : Cert.ReferenceIdeal.Facts] [hPre_cosines_and_labels : Cert.Pre_cosines_and_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cosines_and_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_cosines_and_labels [hKernelIdeal : Cert.KernelIdeal.Facts] [hReferenceIdeal : Cert.ReferenceIdeal.Facts] [hPre_cosines_and_labels : Cert.Pre_cosines_and_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cosines_and_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def holds_KernelIdeal_near_exact_pre_cosines_and_labels [hKernelIdeal : Cert.KernelIdeal.Facts] [hPre_cosines_and_labels : Cert.Pre_cosines_and_labels.Facts] [hPost_near_exact : Cert.Post_near_exact.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cosines_and_labels m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ (Cert.Post_near_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v1))) = (fun _ => 1#1))

def Claim : Prop :=
  ∃ (hKernel : Cert.Kernel.Facts) (hKernelIdeal : Cert.KernelIdeal.Facts) (hReferenceIdeal : Cert.ReferenceIdeal.Facts) (hPre_cosines_and_labels : Cert.Pre_cosines_and_labels.Facts) (hPost_near_exact : Cert.Post_near_exact.Facts),
    quiescent_Kernel (hKernel := hKernel)
    ∧ quiescent_KernelIdeal (hKernelIdeal := hKernelIdeal)
    ∧ quiescent_KernelIdeal_pre_cosines_and_labels (hKernelIdeal := hKernelIdeal) (hPre_cosines_and_labels := hPre_cosines_and_labels)
    ∧ quiescent_ReferenceIdeal (hReferenceIdeal := hReferenceIdeal)
    ∧ quiescent_ReferenceIdeal_pre_cosines_and_labels (hReferenceIdeal := hReferenceIdeal) (hPre_cosines_and_labels := hPre_cosines_and_labels)
    ∧ preserves_Kernel_KernelIdeal
    ∧ algebraic_KernelIdeal_ReferenceIdeal_pre_cosines_and_labels (hKernelIdeal := hKernelIdeal) (hReferenceIdeal := hReferenceIdeal) (hPre_cosines_and_labels := hPre_cosines_and_labels)
    ∧ holds_KernelIdeal_near_exact_pre_cosines_and_labels (hKernelIdeal := hKernelIdeal) (hPre_cosines_and_labels := hPre_cosines_and_labels) (hPost_near_exact := hPost_near_exact)
-- ==== Post_near_exact.lean ====
abbrev S1024x100000 : Shape := ⟨2, ![1024, 100000]⟩
abbrev S1024x1 : Shape := ⟨2, ![1024, 1]⟩
abbrev S1024 : Shape := ⟨1, ![1024]⟩
abbrev S_ : Shape := ⟨0, ![]⟩
abbrev S1x1 : Shape := ⟨2, ![1, 1]⟩
abbrev S1x100000 : Shape := ⟨2, ![1, 100000]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel
  bcast_S_S1x1 : S_.BroadcastsInDim S1x1 (![] : Fin 0 → Fin S1x1.rank)
  bcast_S1x1_S1024x1_0_1 : S1x1.BroadcastsInDim S1024x1 (![0, 1] : Fin 2 → Fin S1024x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  bcast_S_S1024x100000 : S_.BroadcastsInDim S1024x100000 (![] : Fin 0 → Fin S1024x100000.rank)

variable [Facts]

def fn_clip {F : FTy → Type} [FloatOps F] (arg0 : FVec F S1024x1 .f32) (arg1 : FVec F S_ .f32) (arg2 : FVec F S_ .f32) : FVec F S1024x1 .f32 :=
  let v0 : FVec F S_ .f32 := id arg1
  let v1 : FVec F S1024x1 .f32 := broadcastInDim S1024x1 ![] bcast_S_S1024x1 v0
  let v2 : FVec F S1024x1 .f32 := maximumf v1 arg0
  let v3 : FVec F S_ .f32 := id arg2
  let v4 : FVec F S1024x1 .f32 := broadcastInDim S1024x1 ![] bcast_S_S1024x1 v3
  let v5 : FVec F S1024x1 .f32 := minimumf v4 v2
  v5

def fn_where {F : FTy → Type} [FloatOps F] (arg0 : IVec S_ 1) (arg1 : FVec F S_ .f32) (arg2 : FVec F S_ .f32) : FVec F S_ .f32 :=
  let v0 : FVec F S_ .f32 := id arg2
  let v1 : FVec F S_ .f32 := select arg0 arg1 v0
  v1

def fn_var {F : FTy → Type} [FloatOps F] (arg0 : FVec F S1024x1 .f32) (arg1 : IVec S_ 32) : FVec F S_ .f32 :=
  let cst : FVec F S_ .f32 := constant S_ .f32 0x00000000#32
  let v0 : FVec F S_ .f32 := (fun x v => Host.reduceAdd x v reducesTo_S1024x1_S_d0_1 h_S_) arg0 cst
  let v1 : FVec F S1x1 .f32 := broadcastInDim S1x1 ![] bcast_S_S1x1 v0
  let cst_0 : FVec F S_ .f32 := constant S_ .f32 0x44800000#32
  let v2 : FVec F S1x1 .f32 := broadcastInDim S1x1 ![] bcast_S_S1x1 cst_0
  let v3 : FVec F S1x1 .f32 := Host.divf v1 v2
  let v4 : FVec F S1024x1 .f32 := broadcastInDim S1024x1 ![0, 1] bcast_S1x1_S1024x1_0_1 v3
  let v5 : FVec F S1024x1 .f32 := subf arg0 v4
  let v6 : FVec F S1024x1 .f32 := mulf v5 v5
  let v7 : FVec F S_ .f32 := sitofp .f32 arg1
  let cst_1 : FVec F S_ .f32 := constant S_ .f32 0x44800000#32
  let v8 : FVec F S_ .f32 := subf cst_1 v7
  let cst_2 : FVec F S_ .f32 := constant S_ .f32 0x00000000#32
  let v9 : FVec F S_ .f32 := (fun x v => Host.reduceAdd x v reducesTo_S1024x1_S_d0_1 h_S_) v6 cst_2
  let v10 : FVec F S_ .f32 := Host.divf v9 v8
  let cst_3 : FVec F S_ .f32 := constant S_ .f32 0x00000000#32
  let v11 : IVec S_ 1 := cmpf .ogt v8 cst_3
  let cst_4 : FVec F S_ .f32 := constant S_ .f32 0x7FC00000#32
  let v12 : FVec F S_ .f32 := fn_where (F := F) v11 v10 cst_4
  v12

def fn_std {F : FTy → Type} [FloatOps F] (arg0 : FVec F S1024x1 .f32) (arg1 : IVec S_ 32) : FVec F S_ .f32 :=
  let v0 : FVec F S_ .f32 := fn_var (F := F) arg0 arg1
  let v1 : FVec F S_ .f32 := Host.sqrt v0
  v1

def fn_clip_0 {F : FTy → Type} [FloatOps F] (arg0 : FVec F S1024x1 .f32) (arg1 : FVec F S_ .f32) (arg2 : FVec F S_ .f32) : FVec F S1024x1 .f32 :=
  let v0 : FVec F S_ .f32 := id arg1
  let v1 : FVec F S1024x1 .f32 := broadcastInDim S1024x1 ![] bcast_S_S1024x1 v0
  let v2 : FVec F S1024x1 .f32 := maximumf v1 arg0
  let v3 : FVec F S_ .f32 := id arg2
  let v4 : FVec F S1024x1 .f32 := broadcastInDim S1024x1 ![] bcast_S_S1024x1 v3
  let v5 : FVec F S1024x1 .f32 := minimumf v4 v2
  v5

def fn_where_1 {F : FTy → Type} [FloatOps F] (arg0 : IVec S1024 1) (arg1 : IVec S1024 32) (arg2 : IVec S_ 32) : IVec S1024 32 :=
  let v0 : IVec S_ 32 := id arg2
  let v1 : IVec S1024 32 := broadcastInDim S1024 ![] bcast_S_S1024 v0
  let v2 : IVec S1024 32 := select arg0 arg1 v1
  v2

def fn_one_hot {F : FTy → Type} [FloatOps F] (arg0 : IVec S1024 32) : FVec F S1024x100000 .f32 :=
  let v0 : IVec S1024x1 32 := broadcastInDim S1024x1 ![0] bcast_S1024_S1024x1_0 arg0
  let v1 : IVec S1x100000 32 := iotaInDim S1x100000 32 1
  let v2 : IVec S1024x100000 32 := broadcastInDim S1024x100000 ![0, 1] bcast_S1024x1_S1024x100000_0_1 v0
  let v3 : IVec S1024x100000 32 := broadcastInDim S1024x100000 ![0, 1] bcast_S1x100000_S1024x100000_0_1 v1
  let v4 : IVec S1024x100000 1 := cmpi .eq v2 v3
  let v5 : FVec F S1024x100000 .f32 := uitofp .f32 v4
  v5

def fn_clip_2 {F : FTy → Type} [FloatOps F] (arg0 : FVec F S1024x100000 .f32) (arg1 : FVec F S_ .f32) (arg2 : FVec F S_ .f32) : FVec F S1024x100000 .f32 :=
  let v0 : FVec F S_ .f32 := id arg1
  let v1 : FVec F S1024x100000 .f32 := broadcastInDim S1024x100000 ![] bcast_S_S1024x100000 v0
  let v2 : FVec F S1024x100000 .f32 := maximumf v1 arg0
  let v3 : FVec F S_ .f32 := id arg2
  let v4 : FVec F S1024x100000 .f32 := broadcastInDim S1024x100000 ![] bcast_S_S1024x100000 v3
  let v5 : FVec F S1024x100000 .f32 := minimumf v4 v2
  v5

def fn_where_3 {F : FTy → Type} [FloatOps F] (arg0 : IVec S1024x1 1) (arg1 : FVec F S1024x100000 .f32) (arg2 : FVec F S1024x100000 .f32) : FVec F S1024x100000 .f32 :=
  let v0 : IVec S1024x100000 1 := broadcastInDim S1024x100000 ![0, 1] bcast_S1024x1_S1024x100000_0_1 arg0
  let v1 : FVec F S1024x100000 .f32 := select v0 arg1 arg2
  v1

def fn_part2 {F : FTy → Type} [FloatOps F] (main_arg3 : FVec F S1024x100000 .f32) (main_v15 : FVec F S1024x1 .f32) (main_v17 : IVec S1024 1) (main_v23 : FVec F S1024x100000 .f32) (main_v28 : FVec F S1024x100000 .f32) (main_v29 : FVec F S1024x100000 .f32) (main_cst_14 : FVec F S_ .f32) (main_cst_15 : FVec F S_ .f32) : IVec S1024x100000 1 :=
  let main_v30 : FVec F S1024x100000 .f32 := fn_clip_2 (F := F) main_v29 main_cst_14 main_cst_15
  let main_v31 : IVec S1024x1 1 := broadcastInDim S1024x1 ![0] bcast_S1024_S1024x1_0 main_v17
  let main_v32 : FVec F S1024x100000 .f32 := fn_where_3 (F := F) main_v31 main_v30 main_v28
  let main_v33 : FVec F S1024x100000 .f32 := Host.cos main_v32
  let main_cst_16 : FVec F S_ .f32 := constant S_ .f32 0x3ECCCCCD#32
  let main_v34 : FVec F S1024x1 .f32 := broadcastInDim S1024x1 ![] bcast_S_S1024x1 main_cst_16
  let main_v35 : FVec F S1024x1 .f32 := mulf main_v34 main_v15
  let main_cst_17 : FVec F S_ .f32 := constant S_ .f32 0x3ECCCCCD#32
  let main_v36 : FVec F S1024x1 .f32 := broadcastInDim S1024x1 ![] bcast_S_S1024x1 main_cst_17
  let main_v37 : FVec F S1024x1 .f32 := addf main_v36 main_v35
  let main_v38 : FVec F S1024x100000 .f32 := broadcastInDim S1024x100000 ![0, 1] bcast_S1024x1_S1024x100000_0_1 main_v37
  let main_v39 : FVec F S1024x100000 .f32 := mulf main_v23 main_v38
  let main_v40 : IVec S1024x1 1 := broadcastInDim S1024x1 ![0] bcast_S1024_S1024x1_0 main_v17
  let main_v41 : FVec F S1024x100000 .f32 := subf main_v33 main_v39
  let main_v42 : FVec F S1024x100000 .f32 := fn_where_3 (F := F) main_v40 main_v41 main_v33
  let main_cst_18 : FVec F S_ .f32 := constant S_ .f32 0x42800000#32
  let main_v43 : FVec F S1024x100000 .f32 := broadcastInDim S1024x100000 ![] bcast_S_S1024x100000 main_cst_18
  let main_v44 : FVec F S1024x100000 .f32 := mulf main_v42 main_v43
  let main_v45 : FVec F S1024x100000 .f32 := subf main_arg3 main_v44
  let main_v46 : FVec F S1024x100000 .f32 := Host.absf main_v45
  let main_cst_19 : FVec F S_ .f32 := constant S_ .f32 0x38D1B717#32
  let main_v47 : FVec F S1024x100000 .f32 := broadcastInDim S1024x100000 ![] bcast_S_S1024x100000 main_cst_19
  let main_v48 : IVec S1024x100000 1 := cmpf .ole main_v46 main_v47
  main_v48

def fn_part1 {F : FTy → Type} [FloatOps F] (main_arg0 : FVec F S1024x100000 .f32) (main_arg2 : IVec S1024 32) (main_arg3 : FVec F S1024x100000 .f32) (main_v12 : FVec F S1024x1 .f32) (main_cst_8 : FVec F S_ .f32) : IVec S1024x100000 1 :=
  let main_v13 : FVec F S1024x1 .f32 := broadcastInDim S1024x1 ![] bcast_S_S1024x1 main_cst_8
  let main_v14 : FVec F S1024x1 .f32 := mulf main_v12 main_v13
  let main_cst_9 : FVec F S_ .f32 := constant S_ .f32 0xBF800000#32
  let main_cst_10 : FVec F S_ .f32 := constant S_ .f32 0x3F800000#32
  let main_v15 : FVec F S1024x1 .f32 := fn_clip_0 (F := F) main_v14 main_cst_9 main_cst_10
  let main_c_11 : IVec S_ 32 := constantI S_ 32 4294967295#32
  let main_v16 : IVec S1024 32 := broadcastInDim S1024 ![] bcast_S_S1024 main_c_11
  let main_v17 : IVec S1024 1 := cmpi .ne main_arg2 main_v16
  let main_c_12 : IVec S_ 32 := constantI S_ 32 0#32
  let main_v18 : IVec S1024 32 := fn_where_1 (F := F) main_v17 main_arg2 main_c_12
  let main_v19 : FVec F S1024x100000 .f32 := fn_one_hot (F := F) main_v18
  let main_v20 : IVec S1024x1 1 := broadcastInDim S1024x1 ![0] bcast_S1024_S1024x1_0 main_v17
  let main_v21 : FVec F S1024x1 .f32 := uitofp .f32 main_v20
  let main_v22 : FVec F S1024x100000 .f32 := broadcastInDim S1024x100000 ![0, 1] bcast_S1024x1_S1024x100000_0_1 main_v21
  let main_v23 : FVec F S1024x100000 .f32 := mulf main_v19 main_v22
  let main_cst_13 : FVec F S_ .f32 := constant S_ .f32 0xBECCCCCD#32
  let main_v24 : FVec F S1024x1 .f32 := broadcastInDim S1024x1 ![] bcast_S_S1024x1 main_cst_13
  let main_v25 : FVec F S1024x1 .f32 := mulf main_v24 main_v15
  let main_v26 : FVec F S1024x100000 .f32 := broadcastInDim S1024x100000 ![0, 1] bcast_S1024x1_S1024x100000_0_1 main_v25
  let main_v27 : FVec F S1024x100000 .f32 := mulf main_v23 main_v26
  let main_v28 : FVec F S1024x100000 .f32 := Host.acos main_arg0
  let main_v29 : FVec F S1024x100000 .f32 := addf main_v28 main_v27
  let main_cst_14 : FVec F S_ .f32 := constant S_ .f32 0x3A83126F#32
  let main_cst_15 : FVec F S_ .f32 := constant S_ .f32 0x4048FF78#32
  fn_part2 (F := F) main_arg3 main_v15 main_v17 main_v23 main_v28 main_v29 main_cst_14 main_cst_15

def fn {F : FTy → Type} [FloatOps F] (main_arg0 : FVec F S1024x100000 .f32) (main_arg1 : FVec F S1024x1 .f32) (main_arg2 : IVec S1024 32) (main_arg3 : FVec F S1024x100000 .f32) : IVec S1024x100000 1 :=
  let main_cst : FVec F S_ .f32 := constant S_ .f32 0x3A83126F#32
  let main_cst_0 : FVec F S_ .f32 := constant S_ .f32 0x42C80000#32
  let main_v0 : FVec F S1024x1 .f32 := fn_clip (F := F) main_arg1 main_cst main_cst_0
  let main_cst_1 : FVec F S_ .f32 := constant S_ .f32 0x00000000#32
  let main_v1 : FVec F S_ .f32 := (fun x v => Host.reduceAdd x v reducesTo_S1024x1_S_d0_1 h_S_) main_v0 main_cst_1
  let main_cst_2 : FVec F S_ .f32 := constant S_ .f32 0x44800000#32
  let main_v2 : FVec F S_ .f32 := Host.divf main_v1 main_cst_2
  let main_c : IVec S_ 32 := constantI S_ 32 1#32
  let main_v3 : FVec F S_ .f32 := fn_std (F := F) main_v0 main_c
  let main_cst_3 : FVec F S_ .f32 := constant S_ .f32 0x3F800000#32
  let main_v4 : FVec F S_ .f32 := mulf main_v2 main_cst_3
  let main_cst_4 : FVec F S_ .f32 := constant S_ .f32 0x00000000#32
  let main_v5 : FVec F S_ .f32 := addf main_v4 main_cst_4
  let main_cst_5 : FVec F S_ .f32 := constant S_ .f32 0x3F800000#32
  let main_v6 : FVec F S_ .f32 := mulf main_v3 main_cst_5
  let main_cst_6 : FVec F S_ .f32 := constant S_ .f32 0x00000000#32
  let main_v7 : FVec F S_ .f32 := addf main_v6 main_cst_6
  let main_v8 : FVec F S1024x1 .f32 := broadcastInDim S1024x1 ![] bcast_S_S1024x1 main_v5
  let main_v9 : FVec F S1024x1 .f32 := subf main_v0 main_v8
  let main_cst_7 : FVec F S_ .f32 := constant S_ .f32 0x3A83126F#32
  let main_v10 : FVec F S_ .f32 := addf main_v7 main_cst_7
  let main_v11 : FVec F S1024x1 .f32 := broadcastInDim S1024x1 ![] bcast_S_S1024x1 main_v10
  let main_v12 : FVec F S1024x1 .f32 := Host.divf main_v9 main_v11
  let main_cst_8 : FVec F S_ .f32 := constant S_ .f32 0x3EAA7EFA#32
  fn_part1 (F := F) main_arg0 main_arg2 main_arg3 main_v12 main_cst_8
-- ==== Pre_cosines_and_labels.lean ====
abbrev S1024x100000 : Shape := ⟨2, ![1024, 100000]⟩
abbrev S1024x1 : Shape := ⟨2, ![1024, 1]⟩
abbrev S1024 : Shape := ⟨1, ![1024]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x100000 .f32) (main_arg1 : FVec F S1024x1 .f32) (main_arg2 : IVec S1024 32) : IVec S_ 1 :=
  let main_cst : FVec F S_ .f32 := constant S_ .f32 0xBF666666#32
  let main_v0 : FVec F S1024x100000 .f32 := broadcastInDim S1024x100000 ![] bcast_S_S1024x100000 main_cst
  let main_v1 : IVec S1024x100000 1 := cmpf .oge main_arg0 main_v0
  let main_c : IVec S_ 1 := constantI S_ 1 1#1
  let main_v2 : IVec S_ 1 := (fun x v => Host.reduce IntOp.andi x v reducesTo_S1024x100000_S_d0_1 h_S_) main_v1 main_c
  let main_cst_0 : FVec F S_ .f32 := constant S_ .f32 0x3F800000#32
  let main_v3 : FVec F S1024x100000 .f32 := broadcastInDim S1024x100000 ![] bcast_S_S1024x100000 main_cst_0
  let main_v4 : IVec S1024x100000 1 := cmpf .ole main_arg0 main_v3
  let main_c_1 : IVec S_ 1 := constantI S_ 1 1#1
  let main_v5 : IVec S_ 1 := (fun x v => Host.reduce IntOp.andi x v reducesTo_S1024x100000_S_d0_1 h_S_) main_v4 main_c_1
  let main_v6 : IVec S_ 1 := andi main_v2 main_v5
  let main_c_2 : IVec S_ 32 := constantI S_ 32 4294967295#32
  let main_v7 : IVec S1024 32 := broadcastInDim S1024 ![] bcast_S_S1024 main_c_2
  let main_v8 : IVec S1024 1 := cmpi .ne main_arg2 main_v7
  let main_c_3 : IVec S_ 1 := constantI S_ 1 1#1
  let main_v9 : IVec S_ 1 := (fun x v => Host.reduce IntOp.andi x v reducesTo_S1024_S_d0 h_S_) main_v8 main_c_3
  let main_v10 : IVec S_ 1 := andi main_v6 main_v9
  main_v10
-- ==== Kernel.lean ====
abbrev S1024x100000 : Shape := ⟨2, ![1024, 100000]⟩
abbrev S1024x1 : Shape := ⟨2, ![1024, 1]⟩
abbrev S1024 : Shape := ⟨1, ![1024]⟩
abbrev S1024x2560 : Shape := ⟨2, ![1024, 2560]⟩
abbrev S1024x4 : Shape := ⟨2, ![1024, 4]⟩
abbrev S1x1024x1 : Shape := ⟨3, ![1, 1024, 1]⟩
abbrev S1 : Shape := ⟨1, ![1]⟩
abbrev S1x1x1 : Shape := ⟨3, ![1, 1, 1]⟩
abbrev S2560x1 : Shape := ⟨2, ![2560, 1]⟩

abbrev nBuf : Space → Nat
  | .hbm => 5
  | .vmem => 7
  | .smem => 0
  | _ => 0

abbrev bufTy : (tb : Table) → Fin (tcTables nBuf tb) → BufTy
  | .hbm, ⟨0, _⟩ => ⟨S1024x100000, .f32⟩
  | .hbm, ⟨1, _⟩ => ⟨S1024x1, .f32⟩
  | .hbm, ⟨2, _⟩ => ⟨S1024, .i32⟩
  | .hbm, ⟨3, _⟩ => ⟨S1024x1, .i32⟩
  | .hbm, ⟨4, _⟩ => ⟨S1024x100000, .f32⟩
  | .local _ .vmem, ⟨0, _⟩ => ⟨S1024x2560, .f32⟩
  | .local _ .vmem, ⟨1, _⟩ => ⟨S1024x2560, .f32⟩
  | .local _ .vmem, ⟨2, _⟩ => ⟨S1024x1, .i32⟩
  | .local _ .vmem, ⟨3, _⟩ => ⟨S1024x1, .f32⟩
  | .local _ .vmem, ⟨4, _⟩ => ⟨S1024x2560, .f32⟩
  | .local _ .vmem, ⟨5, _⟩ => ⟨S1024x2560, .f32⟩
  | .local _ .vmem, ⟨6, _⟩ => ⟨S1024x4, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x100000 : Shape := ⟨2, ![1024, 100000]⟩
abbrev S1024x1 : Shape := ⟨2, ![1024, 1]⟩
abbrev S1024 : Shape := ⟨1, ![1024]⟩
abbrev S_ : Shape := ⟨0, ![]⟩
abbrev S1x1 : Shape := ⟨2, ![1, 1]⟩
abbrev S1x100000 : Shape := ⟨2, ![1, 100000]⟩

abbrev nBuf : Space → Nat
  | .hbm => 217
  | .vmem => 0
  | .smem => 0
  | _ => 0

abbrev hbmTy0_0 (i : Nat) : BufTy := match i % 128 with
  | 0 => ⟨S1024x100000, .f32⟩
  | 1 => ⟨S1024x1, .f32⟩
  | 2 => ⟨S1024, .i32⟩
  | 3 => ⟨S_, .f32⟩
  | 4 => ⟨S_, .f32⟩
  | 5 => ⟨S_, .f32⟩
  | 6 => ⟨S1024x1, .f32⟩
  | 7 => ⟨S1024x1, .f32⟩
  | 8 => ⟨S_, .f32⟩
  | 9 => ⟨S1024x1, .f32⟩
  | 10 => ⟨S1024x1, .f32⟩
  | 11 => ⟨S_, .f32⟩
  | 12 => ⟨S_, .f32⟩
  | 13 => ⟨S_, .f32⟩
  | 14 => ⟨S_, .f32⟩
  | 15 => ⟨S_, .i32⟩
  | 16 => ⟨S_, .f32⟩
  | 17 => ⟨S_, .f32⟩
  | 18 => ⟨S1x1, .f32⟩
  | 19 => ⟨S_, .f32⟩
  | 20 => ⟨S1x1, .f32⟩
  | 21 => ⟨S1x1, .f32⟩
  | 22 => ⟨S1024x1, .f32⟩
  | 23 => ⟨S1024x1, .f32⟩
  | 24 => ⟨S1024x1, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .i1⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S1024x1, .f32⟩
  | 46 => ⟨S1024x1, .f32⟩
  | 47 => ⟨S_, .f32⟩
  | 48 => ⟨S_, .f32⟩
  | 49 => ⟨S1024x1, .f32⟩
  | 50 => ⟨S1024x1, .f32⟩
  | 51 => ⟨S_, .f32⟩
  | 52 => ⟨S1024x1, .f32⟩
  | 53 => ⟨S1024x1, .f32⟩
  | 54 => ⟨S_, .f32⟩
  | 55 => ⟨S_, .f32⟩
  | 56 => ⟨S_, .f32⟩
  | 57 => ⟨S1024x1, .f32⟩
  | 58 => ⟨S1024x1, .f32⟩
  | 59 => ⟨S_, .f32⟩
  | 60 => ⟨S1024x1, .f32⟩
  | 61 => ⟨S1024x1, .f32⟩
  | 62 => ⟨S_, .i32⟩
  | 63 => ⟨S1024, .i32⟩
  | 64 => ⟨S1024, .i1⟩
  | 65 => ⟨S_, .i32⟩
  | 66 => ⟨S_, .i32⟩
  | 67 => ⟨S1024, .i32⟩
  | 68 => ⟨S1024, .i32⟩
  | 69 => ⟨S1024x1, .i32⟩
  | 70 => ⟨S1x100000, .i32⟩
  | 71 => ⟨S1024x100000, .i32⟩
  | 72 => ⟨S1024x100000, .i32⟩
  | 73 => ⟨S1024x100000, .i1⟩
  | 74 => ⟨S1024x100000, .f32⟩
  | 75 => ⟨S1024x1, .i1⟩
  | 76 => ⟨S1024x1, .f32⟩
  | 77 => ⟨S1024x100000, .f32⟩
  | 78 => ⟨S1024x100000, .f32⟩
  | 79 => ⟨S_, .f32⟩
  | 80 => ⟨S1024x1, .f32⟩
  | 81 => ⟨S1024x1, .f32⟩
  | 82 => ⟨S1024x100000, .f32⟩
  | 83 => ⟨S1024x100000, .f32⟩
  | 84 => ⟨S1024x100000, .f32⟩
  | 85 => ⟨S1024x100000, .f32⟩
  | 86 => ⟨S1024x100000, .f32⟩
  | 87 => ⟨S1024x100000, .f32⟩
  | 88 => ⟨S_, .f32⟩
  | 89 => ⟨S1024x100000, .f32⟩
  | 90 => ⟨S1024x100000, .f32⟩
  | 91 => ⟨S_, .f32⟩
  | 92 => ⟨S1024x100000, .f32⟩
  | 93 => ⟨S1024x100000, .f32⟩
  | 94 => ⟨S1024x100000, .f32⟩
  | 95 => ⟨S1024x100000, .f32⟩
  | 96 => ⟨S_, .f32⟩
  | 97 => ⟨S1024x100000, .f32⟩
  | 98 => ⟨S1024x100000, .f32⟩
  | 99 => ⟨S1024x100000, .f32⟩
  | 100 => ⟨S1024x100000, .f32⟩
  | 101 => ⟨S1024x100000, .f32⟩
  | 102 => ⟨S1024x100000, .f32⟩
  | 103 => ⟨S_, .f32⟩
  | 104 => ⟨S1024x100000, .f32⟩
  | 105 => ⟨S1024x100000, .f32⟩
  | 106 => ⟨S1024x100000, .f32⟩
  | 107 => ⟨S1024x100000, .f32⟩
  | 108 => ⟨S1024x100000, .f32⟩
  | 109 => ⟨S_, .f32⟩
  | 110 => ⟨S1024x100000, .f32⟩
  | 111 => ⟨S1024x100000, .f32⟩
  | 112 => ⟨S1024x100000, .f32⟩
  | 113 => ⟨S1024x100000, .f32⟩
  | 114 => ⟨S1024x100000, .f32⟩
  | 115 => ⟨S1024x100000, .f32⟩
  | 116 => ⟨S_, .f32⟩
  | 117 => ⟨S1024x100000, .f32⟩
  | 118 => ⟨S1024x100000, .f32⟩
  | 119 => ⟨S1024x100000, .f32⟩
  | 120 => ⟨S1024x100000, .f32⟩
  | 121 => ⟨S1024x100000, .f32⟩
  | 122 => ⟨S1024x100000, .f32⟩
  | 123 => ⟨S1024x100000, .f32⟩
  | 124 => ⟨S_, .f32⟩
  | 125 => ⟨S1024x100000, .f32⟩
  | 126 => ⟨S1024x100000, .f32⟩
  | 127 => ⟨S1024x100000, .f32⟩
  | _ => ⟨S1024x100000, .f32⟩

abbrev hbmTy0_1 (i : Nat) : BufTy := match i % 128 with
  | 0 => ⟨S1024x100000, .f32⟩
  | 1 => ⟨S1024x100000, .f32⟩
  | 2 => ⟨S1024x100000, .f32⟩
  | 3 => ⟨S1024x100000, .f32⟩
  | 4 => ⟨S_, .f32⟩
  | 5 => ⟨S1024x100000, .f32⟩
  | 6 => ⟨S1024x100000, .i1⟩
  | 7 => ⟨S_, .f32⟩
  | 8 => ⟨S_, .f32⟩
  | 9 => ⟨S1024x100000, .f32⟩
  | 10 => ⟨S1024x100000, .f32⟩
  | 11 => ⟨S_, .f32⟩
  | 12 => ⟨S1024x100000, .f32⟩
  | 13 => ⟨S1024x100000, .i1⟩
  | 14 => ⟨S1024x100000, .f32⟩
  | 15 => ⟨S1024x100000, .f32⟩
  | 16 => ⟨S1024x100000, .f32⟩
  | 17 => ⟨S_, .f32⟩
  | 18 => ⟨S1024x100000, .f32⟩
  | 19 => ⟨S1024x100000, .f32⟩
  | 20 => ⟨S_, .f32⟩
  | 21 => ⟨S1024x100000, .f32⟩
  | 22 => ⟨S1024x100000, .f32⟩
  | 23 => ⟨S1024x100000, .f32⟩
  | 24 => ⟨S1024x100000, .f32⟩
  | 25 => ⟨S_, .f32⟩
  | 26 => ⟨S1024x100000, .f32⟩
  | 27 => ⟨S1024x100000, .f32⟩
  | 28 => ⟨S1024x100000, .f32⟩
  | 29 => ⟨S1024x100000, .f32⟩
  | 30 => ⟨S1024x100000, .f32⟩
  | 31 => ⟨S1024x100000, .f32⟩
  | 32 => ⟨S_, .f32⟩
  | 33 => ⟨S1024x100000, .f32⟩
  | 34 => ⟨S1024x100000, .f32⟩
  | 35 => ⟨S1024x100000, .f32⟩
  | 36 => ⟨S1024x100000, .f32⟩
  | 37 => ⟨S1024x100000, .f32⟩
  | 38 => ⟨S_, .f32⟩
  | 39 => ⟨S1024x100000, .f32⟩
  | 40 => ⟨S1024x100000, .f32⟩
  | 41 => ⟨S1024x100000, .f32⟩
  | 42 => ⟨S1024x100000, .f32⟩
  | 43 => ⟨S1024x100000, .f32⟩
  | 44 => ⟨S1024x100000, .f32⟩
  | 45 => ⟨S_, .f32⟩
  | 46 => ⟨S1024x100000, .f32⟩
  | 47 => ⟨S1024x100000, .f32⟩
  | 48 => ⟨S1024x100000, .f32⟩
  | 49 => ⟨S1024x100000, .f32⟩
  | 50 => ⟨S1024x100000, .f32⟩
  | 51 => ⟨S1024x100000, .f32⟩
  | 52 => ⟨S1024x100000, .f32⟩
  | 53 => ⟨S_, .f32⟩
  | 54 => ⟨S1024x100000, .f32⟩
  | 55 => ⟨S1024x100000, .f32⟩
  | 56 => ⟨S1024x100000, .f32⟩
  | 57 => ⟨S_, .f32⟩
  | 58 => ⟨S1024x100000, .f32⟩
  | 59 => ⟨S1024x100000, .f32⟩
  | 60 => ⟨S_, .f32⟩
  | 61 => ⟨S1024x100000, .f32⟩
  | 62 => ⟨S1024x100000, .f32⟩
  | 63 => ⟨S1024x100000, .f32⟩
  | 64 => ⟨S1024x100000, .i1⟩
  | 65 => ⟨S1024x100000, .i1⟩
  | 66 => ⟨S_, .f32⟩
  | 67 => ⟨S_, .f32⟩
  | 68 => ⟨S1024x100000, .f32⟩
  | 69 => ⟨S1024x100000, .f32⟩
  | 70 => ⟨S1024x1, .i1⟩
  | 71 => ⟨S1024x100000, .f32⟩
  | 72 => ⟨S1024x100000, .i1⟩
  | 73 => ⟨S1024x100000, .f32⟩
  | 74 => ⟨S_, .f32⟩
  | 75 => ⟨S1024x1, .f32⟩
  | 76 => ⟨S1024x1, .f32⟩
  | 77 => ⟨S_, .f32⟩
  | 78 => ⟨S1024x1, .f32⟩
  | 79 => ⟨S1024x1, .f32⟩
  | 80 => ⟨S1024x100000, .f32⟩
  | 81 => ⟨S1024x100000, .f32⟩
  | 82 => ⟨S1024x1, .i1⟩
  | 83 => ⟨S1024x100000, .f32⟩
  | 84 => ⟨S1024x100000, .i1⟩
  | 85 => ⟨S1024x100000, .f32⟩
  | 86 => ⟨S_, .f32⟩
  | 87 => ⟨S1024x100000, .f32⟩
  | 88 => ⟨S1024x100000, .f32⟩
  | _ => ⟨S1024x100000, .f32⟩

abbrev hbmTy (i : Nat) : BufTy := match i / 128 with
  | 0 => hbmTy0_0 i
  | 1 => hbmTy0_1 i
  | _ => ⟨S1024x100000, .f32⟩

abbrev bufTy : (tb : Table) → Fin (tcTables nBuf tb) → BufTy
  | .hbm, ⟨i, _⟩ => hbmTy i
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_cst_2 : Ref sig .tc := ⟨.hbm, 13, rfl⟩
abbrev main_v2 : Ref sig .tc := ⟨.hbm, 14, rfl⟩
abbrev main_c : Ref sig .tc := ⟨.hbm, 15, rfl⟩
abbrev main_call1_call0_cst : Ref sig .tc := ⟨.hbm, 16, rfl⟩
abbrev main_call1_call0_v0 : Ref sig .tc := ⟨.hbm, 17, rfl⟩
abbrev main_call1_call0_v1 : Ref sig .tc := ⟨.hbm, 18, rfl⟩
abbrev main_call1_call0_cst_0 : Ref sig .tc := ⟨.hbm, 19, rfl⟩
abbrev main_call1_call0_v2 : Ref sig .tc := ⟨.hbm, 20, rfl⟩
abbrev main_call1_call0_v3 : Ref sig .tc := ⟨.hbm, 21, rfl⟩
abbrev main_call1_call0_v4 : Ref sig .tc := ⟨.hbm, 22, rfl⟩
abbrev main_call1_call0_v5 : Ref sig .tc := ⟨.hbm, 23, rfl⟩
abbrev main_call1_call0_v6 : Ref sig .tc := ⟨.hbm, 24, rfl⟩
abbrev main_call1_call0_v7 : Ref sig .tc := ⟨.hbm, 25, rfl⟩
abbrev main_call1_call0_cst_1 : Ref sig .tc := ⟨.hbm, 26, rfl⟩
abbrev main_call1_call0_v8 : Ref sig .tc := ⟨.hbm, 27, rfl⟩
abbrev main_call1_call0_cst_2 : Ref sig .tc := ⟨.hbm, 28, rfl⟩
abbrev main_call1_call0_v9 : Ref sig .tc := ⟨.hbm, 29, rfl⟩
abbrev main_call1_call0_v10 : Ref sig .tc := ⟨.hbm, 30, rfl⟩
abbrev main_call1_call0_cst_3 : Ref sig .tc := ⟨.hbm, 31, rfl⟩
abbrev main_call1_call0_v11 : Ref sig .tc := ⟨.hbm, 32, rfl⟩
abbrev main_call1_call0_cst_4 : Ref sig .tc := ⟨.hbm, 33, rfl⟩
abbrev main_call1_call0_call0_v0 : Ref sig .tc := ⟨.hbm, 34, rfl⟩
abbrev main_call1_v0 : Ref sig .tc := ⟨.hbm, 35, rfl⟩
abbrev main_v3 : Ref sig .tc := ⟨.hbm, 36, rfl⟩
abbrev main_cst_3 : Ref sig .tc := ⟨.hbm, 37, rfl⟩
abbrev main_v4 : Ref sig .tc := ⟨.hbm, 38, rfl⟩
abbrev main_cst_4 : Ref sig .tc := ⟨.hbm, 39, rfl⟩
abbrev main_v5 : Ref sig .tc := ⟨.hbm, 40, rfl⟩
abbrev main_cst_5 : Ref sig .tc := ⟨.hbm, 41, rfl⟩
abbrev main_v6 : Ref sig .tc := ⟨.hbm, 42, rfl⟩
abbrev main_cst_6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_cst_7 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst_8 : Ref sig .tc := ⟨.hbm, 51, rfl⟩
abbrev main_v13 : Ref sig .tc := ⟨.hbm, 52, rfl⟩
abbrev main_v14 : Ref sig .tc := ⟨.hbm, 53, rfl⟩
abbrev main_cst_9 : Ref sig .tc := ⟨.hbm, 54, rfl⟩
abbrev main_cst_10 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v15 : Ref sig .tc := ⟨.hbm, 61, rfl⟩
abbrev main_c_11 : Ref sig .tc := ⟨.hbm, 62, rfl⟩
abbrev main_v16 : Ref sig .tc := ⟨.hbm, 63, rfl⟩
abbrev main_v17 : Ref sig .tc := ⟨.hbm, 64, rfl⟩
abbrev main_c_12 : Ref sig .tc := ⟨.hbm, 65, rfl⟩
abbrev main_call3_v0 : Ref sig .tc := ⟨.hbm, 66, rfl⟩
abbrev main_call3_v1 : Ref sig .tc := ⟨.hbm, 67, rfl⟩
abbrev main_v18 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_cst_13 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_14 : Ref sig .tc := ⟨.hbm, 88, rfl⟩
abbrev main_v32 : Ref sig .tc := ⟨.hbm, 89, rfl⟩
abbrev main_v33 : Ref sig .tc := ⟨.hbm, 90, rfl⟩
abbrev main_cst_15 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_cst_16 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_cst_17 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_cst_18 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_cst_19 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_cst_20 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_cst_21 : Ref sig .tc := ⟨.hbm, 132, rfl⟩
abbrev main_v69 : Ref sig .tc := ⟨.hbm, 133, rfl⟩
abbrev main_v70 : Ref sig .tc := ⟨.hbm, 134, rfl⟩
abbrev main_cst_22 : Ref sig .tc := ⟨.hbm, 135, rfl⟩
abbrev main_call5_v0 : Ref sig .tc := ⟨.hbm, 136, rfl⟩
abbrev main_call5_v1 : Ref sig .tc := ⟨.hbm, 137, rfl⟩
abbrev main_v71 : Ref sig .tc := ⟨.hbm, 138, rfl⟩
abbrev main_cst_23 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_cst_24 : Ref sig .tc := ⟨.hbm, 145, rfl⟩
abbrev main_v77 : Ref sig .tc := ⟨.hbm, 146, rfl⟩
abbrev main_v78 : Ref sig .tc := ⟨.hbm, 147, rfl⟩
abbrev main_cst_25 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_cst_26 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_cst_27 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_cst_28 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_cst_29 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_cst_30 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_cst_31 : Ref sig .tc := ⟨.hbm, 185, rfl⟩
abbrev main_v110 : Ref sig .tc := ⟨.hbm, 186, rfl⟩
abbrev main_v111 : Ref sig .tc := ⟨.hbm, 187, rfl⟩
abbrev main_cst_32 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_cst_33 : Ref sig .tc := ⟨.hbm, 194, rfl⟩
abbrev main_call6_v0 : Ref sig .tc := ⟨.hbm, 195, rfl⟩
abbrev main_call6_v1 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_call7_v0 : Ref sig .tc := ⟨.hbm, 200, rfl⟩
abbrev main_v120 : Ref sig .tc := ⟨.hbm, 201, rfl⟩
abbrev main_cst_34 : Ref sig .tc := ⟨.hbm, 202, rfl⟩
abbrev main_v121 : Ref sig .tc := ⟨.hbm, 203, rfl⟩
abbrev main_v122 : Ref sig .tc := ⟨.hbm, 204, rfl⟩
abbrev main_cst_35 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_call8_v0 : Ref sig .tc := ⟨.hbm, 212, rfl⟩
abbrev main_v129 : Ref sig .tc := ⟨.hbm, 213, rfl⟩
abbrev main_cst_36 : Ref sig .tc := ⟨.hbm, 214, rfl⟩
abbrev main_v130 : Ref sig .tc := ⟨.hbm, 215, rfl⟩
abbrev main_v131 : Ref sig .tc := ⟨.hbm, 216, rfl⟩

abbrev nD : Nat := 1
abbrev τ : Topo := Topo.v7x

variable {F : FTy → Type} [FloatOps F]
-- ==== Proof.Body.lean ====
/-
  The kernel's body, run once on any staging buffers: at the grid's first point the four columns of the scratch are
  filled from the norms, and at every point the result's block is computed from the block of cosines, the labels and
  those columns.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The scratch's columns -/

/-- Column 0 of the scratch, as the body loads it. -/
def col0 (S : S1024x4.Idx → Elt F .f32) : Vec F S1024x1 .f32 :=
  fun y => S ((Rect.unit (s := S1024x4) ![0, 0] S1024x1.size inb_S1024x4_S1024x1_0_0).toLoadRect.idx y)
/-- Column 1. -/
def col1 (S : S1024x4.Idx → Elt F .f32) : Vec F S1024x1 .f32 :=
  fun y => S ((Rect.unit (s := S1024x4) ![0, 1] S1024x1.size inb_S1024x4_S1024x1_0_1).toLoadRect.idx y)
/-- Column 2. -/
def col2 (S : S1024x4.Idx → Elt F .f32) : Vec F S1024x1 .f32 :=
  fun y => S ((Rect.unit (s := S1024x4) ![0, 2] S1024x1.size inb_S1024x4_S1024x1_0_2).toLoadRect.idx y)
/-- Column 3. -/
def col3 (S : S1024x4.Idx → Elt F .f32) : Vec F S1024x1 .f32 :=
  fun y => S ((Rect.unit (s := S1024x4) ![0, 3] S1024x1.size inb_S1024x4_S1024x1_0_3).toLoadRect.idx y)

/-- The scratch holds the four columns computed from the norms `N`: the polynomials for the cosine and the sine of the
    margin angle, the additive margin, and the bound of the clip. -/
def Filled (N : Vec F S1024x1 .f32) (S : S1024x4.Idx → Elt F .f32) : Prop :=
  col0 S = k0_pay7 (k0_pay5 N) ∧ col1 S = k0_pay8 (k0_pay3 N) (k0_pay4 N) ∧ col2 S = k0_pay9 (k0_pay2 N)
    ∧ col3 S = k0_pay10 (k0_pay3 N) (k0_pay4 N) (k0_pay5 N)

/-- What the body stores to the result's block at grid point `i`: from the cosines `X`, the labels `L` and the scratch `S`. -/
def outBlock (i : grid0.Coords) (X : Vec F S1024x2560 .f32) (L : Vec F S1024x1 .i32) (S : S1024x4.Idx → Elt F .f32) :
    FVec F S1024x2560 .f32 :=
  k0_pay1 (k0_pay11 X) (k0_pay12 i L) (col2 S) (k0_pay14 i X L (col0 S) (col1 S)) (k0_pay15 i X L (col3 S)) k0_pay16

/-- Four stores, one per column, leave the four payloads in the columns. -/
theorem filled_of_stores {sp : Space} (v : View sig .tc sp S1024x4 .f32) (f : v.ty.Contents (Elt F)) (w0 w1 w2 w3 : Vec F S1024x1 .f32) :
    let S := v.read (Elt F) (v.writes (Elt F) f
      [⟨Rect.unit (s := S1024x4) ![0, 3] S1024x1.size inb_S1024x4_S1024x1_0_3, w3⟩, ⟨Rect.unit (s := S1024x4) ![0, 2] S1024x1.size inb_S1024x4_S1024x1_0_2, w2⟩,
        ⟨Rect.unit (s := S1024x4) ![0, 1] S1024x1.size inb_S1024x4_S1024x1_0_1, w1⟩, ⟨Rect.unit (s := S1024x4) ![0, 0] S1024x1.size inb_S1024x4_S1024x1_0_0, w0⟩])
    col0 S = w0 ∧ col1 S = w1 ∧ col2 S = w2 ∧ col3 S = w3 := by
  have hidx : ∀ (k : ℕ) (inb : ∀ a, (![0, k] : Fin 2 → ℕ) a + S1024x1.size a ≤ S1024x4.size a) (y : S1024x1.Idx) (a : Fin 2),
      ((Rect.unit (s := S1024x4) ![0, k] S1024x1.size inb).toLoadRect.idx y a).val = (![0, k] : Fin 2 → ℕ) a + (y a).val := by
    intro k inb y a
    show (![0, k] : Fin 2 → ℕ) a + 1 * (y a).val = _
    rw [Nat.one_mul]
  have hy1 : ∀ y : S1024x1.Idx, (y 1).val = 0 := fun y => by have := (y 1).isLt; simp at this; omega
  refine ⟨?_, ?_, ?_, ?_⟩ <;> funext y
  · unfold col0
    rw [View.read_writes_cons_unit_of_not_mem v f _ _ _ _ rfl 1 (.inl (by rw [hidx, hy1]; decide)),
      View.read_writes_cons_unit_of_not_mem v f _ _ _ _ rfl 1 (.inl (by rw [hidx, hy1]; decide)),
      View.read_writes_cons_unit_of_not_mem v f _ _ _ _ rfl 1 (.inl (by rw [hidx, hy1]; decide))]
    exact View.read_writes_cons_unit_of_mem v f _ w0 _ _ y rfl (hidx 0 _ y)
  · unfold col1
    rw [View.read_writes_cons_unit_of_not_mem v f _ _ _ _ rfl 1 (.inl (by rw [hidx, hy1]; decide)),
      View.read_writes_cons_unit_of_not_mem v f _ _ _ _ rfl 1 (.inl (by rw [hidx, hy1]; decide))]
    exact View.read_writes_cons_unit_of_mem v f _ w1 _ _ y rfl (hidx 1 _ y)
  · unfold col2
    rw [View.read_writes_cons_unit_of_not_mem v f _ _ _ _ rfl 1 (.inl (by rw [hidx, hy1]; decide))]
    exact View.read_writes_cons_unit_of_mem v f _ w2 _ _ y rfl (hidx 2 _ y)
  · unfold col3
    exact View.read_writes_cons_unit_of_mem v f _ w3 _ _ y rfl (hidx 3 _ y)

/-- A load of a whole block of cosines reads the block. -/
theorem readAt_X {sp : Space} (v : View sig .tc sp S1024x2560 .f32) (f : v.ty.Contents (Elt F)) :
    v.readAt (Elt F) (Rect.unit (s := S1024x2560) ![0, 0] ![1024, 2560] inb_S1024x2560_S1024x2560_0_0).toLoadRect f = v.read (Elt F) f :=
  View.readAt_full v f inb_S1024x2560_S1024x2560_0_0
/-- A load of the whole column of labels reads the column. -/
theorem readAt_L {sp : Space} (v : View sig .tc sp S1024x1 .i32) (f : v.ty.Contents (Elt F)) :
    v.readAt (Elt F) (Rect.unit (s := S1024x1) ![0, 0] ![1024, 1] inb_S1024x1_S1024x1_0_0).toLoadRect f = v.read (Elt F) f :=
  View.readAt_full v f inb_S1024x1_S1024x1_0_0
/-- A load of the whole column of norms reads the column. -/
theorem readAt_N {sp : Space} (v : View sig .tc sp S1024x1 .f32) (f : v.ty.Contents (Elt F)) :
    v.readAt (Elt F) (Rect.unit (s := S1024x1) ![0, 0] ![1024, 1] inb_S1024x1_S1024x1_0_0).toLoadRect f = v.read (Elt F) f :=
  View.readAt_full v f inb_S1024x1_S1024x1_0_0

/-! ## The body -/

section
variable (c : Dev nD) (i : grid0.Coords)
    (arg1 : Memref sig .tc .vmem S1024x2560 .f32) (harg1 : arg1.IsWhole) (arg2 : Memref sig .tc .vmem S1024x1 .i32) (harg2 : arg2.IsWhole)
    (arg3 : Memref sig .tc .vmem S1024x1 .f32) (harg3 : arg3.IsWhole) (arg4 : Memref sig .tc .vmem S1024x2560 .f32) (harg4 : arg4.IsWhole)
    (arg5 : Memref sig .tc .vmem S1024x4 .f32) (harg5 : arg5.IsWhole)
    (X : Vec F S1024x2560 .f32) (L : Vec F S1024x1 .i32) (N : Vec F S1024x1 .f32)

/-- The body after the first point: the scratch is read, not written, and the result's block is `outBlock` of it. -/
theorem body_later (hi : ¬ (i 0).val = 0) (S : S1024x4.Idx → Elt F .f32) (K : PUnit → sProp 𝕄) :
    iprop(owns (c : Thread nD τ) arg1 fullShare X ∗ owns (c : Thread nD τ) arg2 fullShare L ∗ owns (c : Thread nD τ) arg3 fullShare N
        ∗ (∃ d, owns (c : Thread nD τ) arg4 fullShare d) ∗ owns (c : Thread nD τ) arg5 fullShare S
        ∗ (iprop(owns (c : Thread nD τ) arg1 fullShare X ∗ owns (c : Thread nD τ) arg2 fullShare L ∗ owns (c : Thread nD τ) arg3 fullShare N
            ∗ owns (c : Thread nD τ) arg4 fullShare (outBlock i X L S) ∗ owns (c : Thread nD τ) arg5 fullShare S) -∗ K ⟨⟩))
      ⊢ wp frame (wpE (defs₀ (F := F)) Variants.none c none) Set.univ
          (cc0__adaface_kernel i arg1 harg1 arg2 harg2 arg3 harg3 arg4 harg4 arg5 harg5) K := by
  have hc : ¬ Scalar.cmpi CmpIPredicate.ne (Scalar.extui (Scalar.cmpi CmpIPredicate.eq (BitVec.ofNat 32 (i 0).val) 0#32)) 0#32 = 1#1 := by
    have h : ∀ n : Fin 40, ¬ n.val = 0 →
        ¬ Scalar.cmpi CmpIPredicate.ne (Scalar.extui (Scalar.cmpi CmpIPredicate.eq (BitVec.ofNat 32 n.val) 0#32)) 0#32 = 1#1 := by decide
    exact h (i 0) hi
  simp only [cc0__adaface_kernel_eq_skeleton]; unfold cc0__adaface_kernel_skel
  simp only [k0_part2_eq_skeleton]; unfold k0_part2_skel
  simp only [dif_neg hc]
  unfold owns
  iintro ⟨⟨%f1, %hf1, H1⟩, ⟨%f2, %hf2, H2⟩, ⟨%f3, %hf3, H3⟩, ⟨%d4, %f4, -, H4⟩, ⟨%f5, %hf5, H5⟩, Hk⟩
  sl_exec
  sl_step
  have e1 := (readAt_X arg1.view f1).trans hf1
  have e2 := (readAt_L arg2.view f2).trans hf2
  subst hf5
  iapply Hk
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [H4]
  · iexists _; isplitr; swap; · iexact H4
    ipureintro
    rw [View.read_writes_full]
    dsimp only
    rw [e1, e2]
    rfl
  · iexists f5; isplitr; · ipureintro; rfl
    iexact H5

/-- The body at the first point: the scratch is filled from the norms, and the result's block is `outBlock` of it. -/
theorem body_first (hi : (i 0).val = 0) (K : PUnit → sProp 𝕄) :
    iprop(owns (c : Thread nD τ) arg1 fullShare X ∗ owns (c : Thread nD τ) arg2 fullShare L ∗ owns (c : Thread nD τ) arg3 fullShare N
        ∗ (∃ d, owns (c : Thread nD τ) arg4 fullShare d) ∗ (∃ d, owns (c : Thread nD τ) arg5 fullShare d)
        ∗ (∀ S, iprop(⌜Filled N S⌝ ∗ owns (c : Thread nD τ) arg1 fullShare X ∗ owns (c : Thread nD τ) arg2 fullShare L ∗ owns (c : Thread nD τ) arg3 fullShare N
            ∗ owns (c : Thread nD τ) arg4 fullShare (outBlock i X L S) ∗ owns (c : Thread nD τ) arg5 fullShare S) -∗ K ⟨⟩))
      ⊢ wp frame (wpE (defs₀ (F := F)) Variants.none c none) Set.univ
          (cc0__adaface_kernel i arg1 harg1 arg2 harg2 arg3 harg3 arg4 harg4 arg5 harg5) K := by
  have hc : Scalar.cmpi CmpIPredicate.ne (Scalar.extui (Scalar.cmpi CmpIPredicate.eq (BitVec.ofNat 32 (i 0).val) 0#32)) 0#32 = 1#1 := by
    rw [hi]; decide
  simp only [cc0__adaface_kernel_eq_skeleton]; unfold cc0__adaface_kernel_skel
  simp only [k0_part2_eq_skeleton]; unfold k0_part2_skel
  simp only [dif_pos hc]
  simp only [k0_part1_eq_skeleton]; unfold k0_part1_skel
  unfold owns
  iintro ⟨⟨%f1, %hf1, H1⟩, ⟨%f2, %hf2, H2⟩, ⟨%f3, %hf3, H3⟩, ⟨%d4, %f4, -, H4⟩, ⟨%d5, %f5, -, H5⟩, Hk⟩
  sl_exec
  sl_step
  have e1 := (readAt_X arg1.view f1).trans hf1
  have e2 := (readAt_L arg2.view f2).trans hf2
  have e3 := (readAt_N arg3.view f3).trans hf3
  unfold body_first.sl.H5_4
  dsimp only
  rw [e3]
  have hF := filled_of_stores arg5.view f5 (k0_pay7 (k0_pay5 N)) (k0_pay8 (k0_pay3 N) (k0_pay4 N)) (k0_pay9 (k0_pay2 N))
    (k0_pay10 (k0_pay3 N) (k0_pay4 N) (k0_pay5 N))
  iapply Hk
  isplitr
  · ipureintro
    exact hF
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [H4]
  · iexists _; isplitr; swap; · iexact H4
    ipureintro
    rw [View.read_writes_full]
    dsimp only
    have hC := filled_of_stores arg5.view arg5.view.junk (k0_pay7 (k0_pay5 N)) (k0_pay8 (k0_pay3 N) (k0_pay4 N)) (k0_pay9 (k0_pay2 N))
      (k0_pay10 (k0_pay3 N) (k0_pay4 N) (k0_pay5 N))
    have e20 : body_first.sl.v20 c arg3 arg5 f3 = k0_pay7 (k0_pay5 N) := by
      unfold body_first.sl.v20 body_first.sl.H5_4; dsimp only; rw [e3]; exact hC.1
    have e21 : body_first.sl.v21 c arg3 arg5 f3 = k0_pay8 (k0_pay3 N) (k0_pay4 N) := by
      unfold body_first.sl.v21 body_first.sl.H5_4; dsimp only; rw [e3]; exact hC.2.1
    have e22 : body_first.sl.v22 c arg3 arg5 f3 = k0_pay9 (k0_pay2 N) := by
      unfold body_first.sl.v22 body_first.sl.H5_4; dsimp only; rw [e3]; exact hC.2.2.1
    have e23 : body_first.sl.v23 c arg3 arg5 f3 = k0_pay10 (k0_pay3 N) (k0_pay4 N) (k0_pay5 N) := by
      unfold body_first.sl.v23 body_first.sl.H5_4; dsimp only; rw [e3]; exact hC.2.2.2
    rw [e1, e2, e20, e21, e22, e23]
    unfold outBlock
    erw [hF.1, hF.2.1, hF.2.2.1, hF.2.2.2]
  · iexists _; isplitr; swap; · iexact H5
    ipureintro; rfl
end

end Cert.KernelIdeal.Hand

end
-- ==== Proof.Frame.lean ====
/- The kernel's frame, at any float values: the arguments end as they started and every semaphore counter ends at zero. Of the
   result's array nothing is said here (what the body computes from the buffer's words past the array's end is not named at
   arbitrary float operations); Proof/Run.lean states it at the real numbers. -/
module

public import proofs.«01_k».proof.Proof.Body
public import Idealize.ShloMosaic.Lib.Pipeline.KitQuiescent

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The cosines' block at point `t` filled out past the array's end with a word nothing reads. -/
def cosBlock (c : Dev nD) (t : Fin cfg0.N) : S1024x2560.Idx → Elt F .f32 :=
  win0_0.fill (grid0.coords t) (fun _ => Scalar.ofBits .f32 0#32) (iblk m c 0 t)

/-- The output window is forgotten. -/
def forgets0 : Fin 4 → Bool := fun w => w.val == 3

/-- The pipeline's proof data for the frame: the inputs' buffers at their blocks, the result's forgotten. -/
def frameDats (_ : Fin 1) (c : Dev nD) : Dat τ (Elt F) Unit ℕ (UR sig nD τ) ℕ cfg0 c where
  A w := V m c (Pipeline.arrRef spec0 w)
  after w t := match w with
    | ⟨0, _⟩ => cosBlock m c t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem frameDats_A (c : Dev nD) (w : Fin cfg0.W) : (frameDats m 0 c).A w = V m c (Pipeline.arrRef spec0 w) := by
  dsimp only [frameDats]

/-- What the body finds in the cosines' buffer: the block, and anything past the array's end. -/
theorem frame_before_0 (c : Dev nD) (t : Fin cfg0.N) (d) :
    (frameDats m 0 c).before (0 : Fin 4) t d = win0_0.fill (grid0.coords t) d (iblk m c 0 t) := by
  unfold Dat.before; rw [if_pos (fetch0_0 t)]; rfl
theorem frame_before_1 (c : Dev nD) (t : Fin cfg0.N) (d) : (frameDats m 0 c).before (1 : Fin 4) t d = iblk m c 1 t :=
  before0_1_of m (frameDats m 0 c) (frameDats_A m c 1) (fun t => by dsimp only [frameDats]) t d
theorem frame_before_2 (c : Dev nD) (t : Fin cfg0.N) (d) : (frameDats m 0 c).before (2 : Fin 4) t d = iblk m c 2 t :=
  before0_2_of m (frameDats m 0 c) (frameDats_A m c 2) (fun t => by dsimp only [frameDats]) t d

/-- The body table's row at point `t`'s slots is the body on the point's buffers. -/
theorem defs₀_row (t : Fin cfg0.N) : (defs₀ (F := F)) .tc cfg0.body (cfg0.bodyArgs t (cfg0.slots t)) = bodyAt0 t := by
  unfold defs₀; rw [Defs.onTc_tc]

/-- The grid has one axis: the point's number is its coordinate. -/
theorem coords_val (t : Fin cfg0.N) : (grid0.coords t 0).val = t.val :=
  (Pipeline.Grid.coords_val (G := grid0) t 0 (S := 1) (B := 40) (by decide) rfl).trans (by
    rw [Nat.div_one]; exact Nat.mod_eq_of_lt (lt_of_lt_of_eq t.isLt N_0))

/-- The body's triple, the result's buffer left at contents nothing names. -/
theorem body_any (c : Dev nD) (i : grid0.Coords)
    (arg1 : Memref sig .tc .vmem S1024x2560 .f32) (harg1 : arg1.IsWhole) (arg2 : Memref sig .tc .vmem S1024x1 .i32) (harg2 : arg2.IsWhole)
    (arg3 : Memref sig .tc .vmem S1024x1 .f32) (harg3 : arg3.IsWhole) (arg4 : Memref sig .tc .vmem S1024x2560 .f32) (harg4 : arg4.IsWhole)
    (arg5 : Memref sig .tc .vmem S1024x4 .f32) (harg5 : arg5.IsWhole)
    (X : Vec F S1024x2560 .f32) (L : Vec F S1024x1 .i32) (N : Vec F S1024x1 .f32) (K : PUnit → sProp 𝕄) :
    iprop(owns (c : Thread nD τ) arg1 fullShare X ∗ owns (c : Thread nD τ) arg2 fullShare L ∗ owns (c : Thread nD τ) arg3 fullShare N
        ∗ (∃ d, owns (c : Thread nD τ) arg4 fullShare d) ∗ (∃ d, owns (c : Thread nD τ) arg5 fullShare d)
        ∗ (iprop(owns (c : Thread nD τ) arg1 fullShare X ∗ owns (c : Thread nD τ) arg2 fullShare L ∗ owns (c : Thread nD τ) arg3 fullShare N
            ∗ (∃ d, owns (c : Thread nD τ) arg4 fullShare d) ∗ (∃ d, owns (c : Thread nD τ) arg5 fullShare d)) -∗ K ⟨⟩))
      ⊢ wp frame (wpE (defs₀ (F := F)) Variants.none c none) Set.univ
          (cc0__adaface_kernel i arg1 harg1 arg2 harg2 arg3 harg3 arg4 harg4 arg5 harg5) K := by
  by_cases hi : (i 0).val = 0
  · iintro ⟨H1, H2, H3, H4, H5, Hk⟩
    iapply (body_first c i arg1 harg1 arg2 harg2 arg3 harg3 arg4 harg4 arg5 harg5 X L N hi K)
    isplitl [H1]; · iexact H1
    isplitl [H2]; · iexact H2
    isplitl [H3]; · iexact H3
    isplitl [H4]; · iexact H4
    isplitl [H5]; · iexact H5
    iintro %S ⟨-, H1, H2, H3, H4, H5⟩
    iapply Hk
    isplitl [H1]; · iexact H1
    isplitl [H2]; · iexact H2
    isplitl [H3]; · iexact H3
    isplitl [H4]; · iexists _; iexact H4
    iexists _; iexact H5
  · iintro ⟨H1, H2, H3, H4, ⟨%S, H5⟩, Hk⟩
    iapply (body_later c i arg1 harg1 arg2 harg2 arg3 harg3 arg4 harg4 arg5 harg5 X L N hi S K)
    isplitl [H1]; · iexact H1
    isplitl [H2]; · iexact H2
    isplitl [H3]; · iexact H3
    isplitl [H4]; · iexact H4
    isplitl [H5]; · iexact H5
    iintro ⟨H1, H2, H3, H4, H5⟩
    iapply Hk
    isplitl [H1]; · iexact H1
    isplitl [H2]; · iexact H2
    isplitl [H3]; · iexact H3
    isplitl [H4]; · iexists _; iexact H4
    iexists _; iexact H5

/-- The scratch at named contents is the scratch at some contents. -/
theorem scratch_out (c : Dev nD) (S : S1024x4.Idx → Elt F .f32) :
    (owns (c : Thread nD τ) (Memref.whole cc0_scratch0) fullShare S : sProp 𝕄)
      ⊢ iprop(∃ f : Buf (Elt F) ((c : Thread nD τ).loc cc0_scratch0), ((c : Thread nD τ).loc cc0_scratch0) ↦{fullShare} f) := by
  rw [owns_whole_eq]
  iintro ⟨%f, -, H⟩
  iexists f
  iexact H

/-- The pipeline's obligation of the body at every point, the output forgotten. -/
theorem frame_body (c : Dev nD) : BodyObligationLoose (frameDats (F := F) m 0 c) (defs₀ (F := F)) Variants.none () Set.univ forgets0 := fun t => by
  rw [bigSep_W0, bigSep_W0, defs₀_row]
  simp only
  rw [show (frameDats m 0 c).Φ t.succ = Pipeline.ΦA spec0 c from rfl, show (frameDats m 0 c).Φ t.castSucc = Pipeline.ΦA spec0 c from rfl,
    show (frameDats m 0 c).owesAt () t.succ = (frameDats m 0 c).owesAt () t.castSucc from rfl]
  unfold Pipeline.ΦA
  rw [scopedRest0_eq]
  simp only [show forgets0 0 = false from rfl, show forgets0 1 = false from rfl, show forgets0 2 = false from rfl,
    show forgets0 3 = true from rfl]
  iintro ⟨⟨⟨%f, Hs⟩, Hp⟩, Ho, ⟨%d0, H0⟩, ⟨%d1, H1⟩, ⟨%d2, H2⟩, H3⟩
  rw [frame_before_0 m c t d0, frame_before_1 m c t d1, frame_before_2 m c t d2]
  iapply (body_any (F := F) c (grid0.coords t) _ _ _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexact H3
  isplitl [Hs]
  · iexists f; rw [owns_whole_eq]; iexists f; isplitr; · ipureintro; rfl
    iexact Hs
  iintro ⟨H0, H1, H2, H3, ⟨%S, Hs⟩⟩
  isplitl [Hs Hp]
  · isplitl [Hs]
    · iapply (scratch_out c S); iexact Hs
    iexact Hp
  isplitl [Ho]; · iexact Ho
  isplitl [H0]
  · iexists d0
    have hx : win0_0.cut (grid0.coords t) (cosBlock m c t) = iblk m c 0 t := win0_0.cut_fill _ _ _
    change _ ⊢ owns (c : Thread nD τ) (stage0_0 (cfg0.slots t 0)) fullShare (win0_0.fill (grid0.coords t) d0 (win0_0.cut (grid0.coords t) (cosBlock m c t)))
    rw [hx]
  isplitl [H1]; · iexact H1
  isplitl [H2]; · iexact H2
  iexact H3

/-! ## The run -/

theorem frame_run : θ_run defs (onTc (τ := τ) (main (F := F))) (s₀ m ρ)
    (fun r => Pipeline.RDat.FramePost (cfgs 0) (fun c => (frameDats m 0 c).toRForget forgets0) (V m) r ∧ r.2.sem = fun _ => 0) :=
  Pipeline.θ_run_frame_forget (Q' := _) cfgs (frameDats m) (0 : Fin 1) launch0 defs₀ Variants.none forgets0 m ρ main
    (hbody := frame_body m) (hshare := fun c => (frameDats m 0 c).share_full fun _ => rfl)
    (howed := fun _ _ => rfl) (V := V m) (hmain := hmain m Variants.none) (hA := frameDats_A m) (hΦ := fun _ _ => rfl)

/-- From any memory with the semaphores at zero and at any float values: every weakly fair execution of the kernel's @main
    terminates, nothing faults, the three arguments end unchanged and every semaphore counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ ⟨h, hz⟩ => ⟨fun c =>
    ⟨(Pipeline.RDat.FramePost.arr_in h c 0 rfl).trans ((frameDats_A m c 0).trans (V_main_arg0 m c)),
      (Pipeline.RDat.FramePost.arr_in h c 2 rfl).trans ((frameDats_A m c 2).trans (V_main_arg1 m c)),
      ((h c).2 main_arg2 (Pipeline.mem_restRefs_of main_arg2 (by decide) (by decide))).trans (V_main_arg2 m c)⟩, hz⟩)
    (frame_run m ρ)

end Cert.KernelIdeal.Hand

end
-- ==== Proof.Frames.lean ====
/- The kernel's own program and the one printed for the value claims are one text, so the frame proved of the second, at any
   float values, is the first's at the hardware's words; and the reference's frame. -/
module
public import proofs.«01_k».proof.Defs
public import proofs.«01_k».proof.Proof.Frame
public import proofs.«01_k».proof.Proof.Gen.Kernel
public import proofs.«01_k».proof.Proof.Gen.ReferenceIdeal
public import proofs.«01_k».proof.Proof.Gen.ReferenceIdeal.Run
public import proofs.«01_k».proof.Proof.Gen.Pre_cosines_and_labels
@[expose] public section
noncomputable section
namespace Cert.Proof
open Idealize.ShloMosaic Idealize.ShloMosaic.TcCoe Idealize.SL.Sem

/-- The two body tables agree: one label, one body. -/
theorem defs₀_eq : (Cert.Kernel.defs₀ (F := Bits)) = Cert.KernelIdeal.defs₀ (F := Bits) :=
  congrArg Defs.onTc (funext fun l => match l with | 0 => rfl)

theorem defs_eq : (Cert.Kernel.defs (F := Bits)) = Cert.KernelIdeal.defs (F := Bits) := by
  unfold Cert.Kernel.defs Cert.KernelIdeal.defs
  exact congrArg (Pipeline.defs (Cert.Kernel.pcfgs (F := Bits))) defs₀_eq

/-- The kernel runs at the hardware's words, its arguments end unchanged and its counters at zero. -/
theorem frame_p : Cert.quiescent_Kernel (hKernel := Cert.Kernel.Gen.facts) := fun m ρ _ => by
  rw [show (Cert.Kernel.defs (F := Bits)) = Cert.KernelIdeal.defs (F := Bits) from defs_eq]
  exact Cert.KernelIdeal.Hand.frame_main (F := Bits) m ρ

/-- The same of the program read at the real numbers. -/
theorem frame_pi : Cert.quiescent_KernelIdeal (hKernelIdeal := Cert.KernelIdeal.Gen.facts) := fun m ρ _ =>
  Cert.KernelIdeal.Hand.frame_main (F := Ideal) m ρ

theorem frame_pi_pre : Cert.quiescent_KernelIdeal_pre_cosines_and_labels (hKernelIdeal := Cert.KernelIdeal.Gen.facts) (hPre_cosines_and_labels := Cert.Pre_cosines_and_labels.Gen.facts) :=
  fun m ρ _ => Cert.KernelIdeal.Hand.frame_main (F := Ideal) m ρ

/-- The reference runs, its arguments end unchanged; it declares no semaphore. -/
theorem frame_r : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

theorem frame_r_pre : Cert.quiescent_ReferenceIdeal_pre_cosines_and_labels (hReferenceIdeal := Cert.ReferenceIdeal.Gen.facts) (hPre_cosines_and_labels := Cert.Pre_cosines_and_labels.Gen.facts) :=
  fun m ρ _ => (θ_run Cert.ReferenceIdeal.defs _ _).mono (fun r h => ⟨fun c => (h c).2, Idealize.ShloMosaic.sem_eq_zero_of_no_sems (by decide) r.2⟩)
    (Cert.ReferenceIdeal.Value.run m ρ)
end Cert.Proof
end
-- ==== Proof.Words.lean ====
/-
  The real numbers the programs' 32-bit float literals denote.
-/
module

public import Idealize.ShloMosaic.Lib.Pointwise

@[expose] public section

noncomputable section

namespace Cert.Words

open Idealize.ShloMosaic

/-- The literal printed for `cos 0.001`, the largest value the clip leaves. -/
def kCos : ℝ := 2097151 / 2097152
/-- The literal printed for `sin 0.001`. -/
def kSin : ℝ := 8589933 / 8589934592
/-- The literal printed for `0.001`. -/
def eps : ℝ := 8589935 / 8589934592
/-- The literal printed for `0.4`, the margin. -/
def pM : ℝ := 13421773 / 33554432
/-- The literal printed for `1/24`. -/
def c24 : ℝ := 11184811 / 268435456
/-- The literal printed for `1/720`. -/
def c720 : ℝ := 11930465 / 8589934592
/-- The literal printed for `1/6`. -/
def c6 : ℝ := 11184811 / 67108864
/-- The literal printed for `1/120`. -/
def c120 : ℝ := 8947849 / 1073741824
/-- The literal printed for `1/5040`. -/
def c5040 : ℝ := 13634817 / 68719476736
/-- The literal printed for `π - 0.001`. -/
def piEps : ℝ := 1646575 / 524288
/-- The literal printed for `1e-4`. -/
def tol : ℝ := 13743895 / 137438953472
/-- The literal printed for `-0.9`. -/
def low : ℝ := -7549747 / 8388608

theorem word_kCos : Ideal.ofBits .f32 0x3F7FFFF8#32 = (kCos : EReal) := by
  simp [Ideal.ofBits, Ideal.ieee, -EReal.coe_mul, kCos]; norm_num
theorem word_kSin : Ideal.ofBits .f32 0x3A83126D#32 = (kSin : EReal) := by
  simp [Ideal.ofBits, Ideal.ieee, -EReal.coe_mul, kSin]; norm_num
theorem word_eps : Ideal.ofBits .f32 0x3A83126F#32 = (eps : EReal) := by
  simp [Ideal.ofBits, Ideal.ieee, -EReal.coe_mul, eps]; norm_num
theorem word_pM : Ideal.ofBits .f32 0x3ECCCCCD#32 = (pM : EReal) := by
  simp [Ideal.ofBits, Ideal.ieee, -EReal.coe_mul, pM]; norm_num
theorem word_nM : Ideal.ofBits .f32 0xBECCCCCD#32 = ((-pM : ℝ) : EReal) := by
  simp [Ideal.ofBits, Ideal.ieee, -EReal.coe_mul, pM, -EReal.coe_neg]; norm_num
theorem word_c24 : Ideal.ofBits .f32 0x3D2AAAAB#32 = (c24 : EReal) := by
  simp [Ideal.ofBits, Ideal.ieee, -EReal.coe_mul, c24]; norm_num
theorem word_c720 : Ideal.ofBits .f32 0x3AB60B61#32 = (c720 : EReal) := by
  simp [Ideal.ofBits, Ideal.ieee, -EReal.coe_mul, c720]; norm_num
theorem word_n720 : Ideal.ofBits .f32 0xBAB60B61#32 = ((-c720 : ℝ) : EReal) := by
  simp [Ideal.ofBits, Ideal.ieee, -EReal.coe_mul, c720, -EReal.coe_neg]; norm_num
theorem word_c6 : Ideal.ofBits .f32 0x3E2AAAAB#32 = (c6 : EReal) := by
  simp [Ideal.ofBits, Ideal.ieee, -EReal.coe_mul, c6]; norm_num
theorem word_n6 : Ideal.ofBits .f32 0xBE2AAAAB#32 = ((-c6 : ℝ) : EReal) := by
  simp [Ideal.ofBits, Ideal.ieee, -EReal.coe_mul, c6, -EReal.coe_neg]; norm_num
theorem word_c120 : Ideal.ofBits .f32 0x3C088889#32 = (c120 : EReal) := by
  simp [Ideal.ofBits, Ideal.ieee, -EReal.coe_mul, c120]; norm_num
theorem word_c5040 : Ideal.ofBits .f32 0x39500D01#32 = (c5040 : EReal) := by
  simp [Ideal.ofBits, Ideal.ieee, -EReal.coe_mul, c5040]; norm_num
theorem word_n5040 : Ideal.ofBits .f32 0xB9500D01#32 = ((-c5040 : ℝ) : EReal) := by
  simp [Ideal.ofBits, Ideal.ieee, -EReal.coe_mul, c5040, -EReal.coe_neg]; norm_num
theorem word_nHalf : Ideal.ofBits .f32 0xBF000000#32 = ((-(1 / 2) : ℝ) : EReal) := by
  simp [Ideal.ofBits, Ideal.ieee, -EReal.coe_mul, -EReal.coe_neg]; norm_num
theorem word_two : Ideal.ofBits .f32 0x40000000#32 = ((2 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_1023 : Ideal.ofBits .f32 0x447FC000#32 = ((1023 : ℝ) : EReal) := by
  simp [Ideal.ofBits, Ideal.ieee, -EReal.coe_mul]; norm_num
theorem word_n1 : Ideal.ofBits .f32 0xBF800000#32 = ((-1 : ℝ) : EReal) := by
  simp [Ideal.ofBits, Ideal.ieee, -EReal.coe_mul, -EReal.coe_neg]; norm_num
theorem word_piEps : Ideal.ofBits .f32 0x4048FF78#32 = (piEps : EReal) := by
  simp [Ideal.ofBits, Ideal.ieee, -EReal.coe_mul, piEps]; norm_num
theorem word_tol : Ideal.ofBits .f32 0x38D1B717#32 = (tol : EReal) := by
  simp [Ideal.ofBits, Ideal.ieee, -EReal.coe_mul, tol]; norm_num
theorem word_low : Ideal.ofBits .f32 0xBF666666#32 = (low : EReal) := by
  simp [Ideal.ofBits, Ideal.ieee, -EReal.coe_mul, low, -EReal.coe_neg]; norm_num

/-- The minimum of two reals is the same among the extended reals. -/
theorem coe_min (x y : ℝ) : ((min x y : ℝ) : EReal) = min (x : EReal) y := EReal.coe_strictMono.monotone.map_min
/-- The maximum of two reals is the same among the extended reals. -/
theorem coe_max (x y : ℝ) : ((max x y : ℝ) : EReal) = max (x : EReal) y := EReal.coe_strictMono.monotone.map_max

/-- The root of a real that is not negative. -/
theorem sqrt_coe {x : ℝ} (h : 0 ≤ x) : Ideal.sqrt (x : EReal) = (√x : ℝ) := by
  change (if x < 0 then (⊥ : EReal) else (√x : ℝ)) = _
  rw [if_neg (not_lt.mpr h)]

/-- A select whose condition holds. -/
theorem select_yes {α : Type} {b : BitVec 1} (h : b = 1#1) (x y : α) : Scalar.select b x y = x := if_pos h
/-- A select whose condition fails. -/
theorem select_no {α : Type} {b : BitVec 1} (h : ¬ b = 1#1) (x y : α) : Scalar.select b x y = y := if_neg h

end Cert.Words

end
-- ==== Proof.Entry.lean ====
/-
  What the kernel's body computes at the real numbers: the margin of a row, the shifted cosine at the row's label and the
  clipped cosine elsewhere, as functions of real numbers, and one entry of a block read as one of them.
-/
module

public import proofs.«01_k».proof.Proof.Body
public import proofs.«01_k».proof.Proof.Words

@[expose] public section

noncomputable section

namespace Cert.Margin

/-- The polynomial for the cosine of the shift `g`. -/
def even (g : ℝ) : ℝ := 1 + g * g * (-(1 / 2) + g * g * (Words.c24 + g * g * -Words.c720))
/-- The polynomial for the sine of the shift `g`. -/
def odd (g : ℝ) : ℝ := g * (1 + g * g * (-Words.c6 + g * g * (Words.c120 + g * g * -Words.c5040)))
/-- The angular shift of a row of margin `t`. -/
def shift (t : ℝ) : ℝ := -Words.pM * t
/-- The bound on the cosine above which the shifted angle falls below `0.001`. -/
def bound (g : ℝ) : ℝ := if g < Words.eps then Words.kCos * even g + Words.kSin * odd g else 2
/-- The result at a row's label: margin `t`, cosine `x`. -/
def atLabel (t x : ℝ) : ℝ :=
  64 * ((if bound (shift t) < x then Words.kCos else x * even (shift t) - √(max (1 - x * x) 0) * odd (shift t))
    - (Words.pM + Words.pM * t))
/-- The result at any other column. -/
def offLabel (x : ℝ) : ℝ := min x Words.kCos * 64

end Cert.Margin

namespace Cert.KernelIdeal.Hand

open Idealize.ShloMosaic Cert.KernelIdeal Cert.KernelIdeal.Gen Cert.Margin Cert.Words

/-! ## A row's margin and the scratch's columns -/

/-- The margin of row `r`: the standardised norm, clipped between -1 and 1. -/
def rowMargin (N : Vec Ideal S1024x1 .f32) (r : Fin 1024) : ℝ := (k0_pay2 N (ix2 r 0) : EReal).toReal

/-- Whatever the standardised norm is, its clip is a real between -1 and 1. -/
theorem clip_real (y : EReal) : min (1 : EReal) (max ((-1 : ℝ) : EReal) y) = ((min (1 : EReal) (max ((-1 : ℝ) : EReal) y)).toReal : ℝ)
    ∧ -1 ≤ (min (1 : EReal) (max ((-1 : ℝ) : EReal) y)).toReal ∧ (min (1 : EReal) (max ((-1 : ℝ) : EReal) y)).toReal ≤ 1 := by
  have hlo : ((-1 : ℝ) : EReal) ≤ min (1 : EReal) (max ((-1 : ℝ) : EReal) y) :=
    le_min (by rw [← EReal.coe_one]; exact EReal.coe_le_coe_iff.mpr (by norm_num)) (le_max_left _ _)
  have hhi : min (1 : EReal) (max ((-1 : ℝ) : EReal) y) ≤ ((1 : ℝ) : EReal) := by rw [EReal.coe_one]; exact min_le_left _ _
  generalize min (1 : EReal) (max ((-1 : ℝ) : EReal) y) = z at hlo hhi ⊢
  induction z with
  | bot => exact absurd (lt_of_lt_of_le (EReal.bot_lt_coe _) hlo) (lt_irrefl _)
  | top => exact absurd (lt_of_le_of_lt hhi (EReal.coe_lt_top _)) (lt_irrefl _)
  | coe z =>
    rw [EReal.toReal_coe]
    exact ⟨rfl, EReal.coe_le_coe_iff.mp hlo, EReal.coe_le_coe_iff.mp hhi⟩

theorem pay2_clip (N : Vec Ideal S1024x1 .f32) (r : Fin 1024) :
    ∃ y : EReal, (k0_pay2 N (ix2 r 0) : EReal) = min (1 : EReal) (max ((-1 : ℝ) : EReal) y) := by
  rw [← word_n1]
  exact ⟨_, by pointwise [k0_pay2]; rfl⟩

theorem margin_coe (N : Vec Ideal S1024x1 .f32) (r : Fin 1024) : (k0_pay2 N (ix2 r 0) : EReal) = (rowMargin N r : EReal) := by
  obtain ⟨y, hy⟩ := pay2_clip N r
  unfold rowMargin; rw [hy]; exact (clip_real y).1
theorem margin_mem (N : Vec Ideal S1024x1 .f32) (r : Fin 1024) : -1 ≤ rowMargin N r ∧ rowMargin N r ≤ 1 := by
  obtain ⟨y, hy⟩ := pay2_clip N r
  unfold rowMargin; rw [hy]; exact (clip_real y).2

variable {N : Vec Ideal S1024x1 .f32} {S : S1024x4.Idx → EReal}

/-- The shift of row `r`, as the payloads compute it. -/
theorem pay3_row (N : Vec Ideal S1024x1 .f32) (r : Fin 1024) : (k0_pay3 N (ix2 r 0) : EReal) = (shift (rowMargin N r) : EReal) := by
  pointwise [k0_pay3]
  simp only [margin_coe, word_nM, ← EReal.coe_mul, shift]
theorem pay4_row (N : Vec Ideal S1024x1 .f32) (r : Fin 1024) :
    (k0_pay4 N (ix2 r 0) : EReal) = ((shift (rowMargin N r) * shift (rowMargin N r) : ℝ) : EReal) := by
  pointwise [k0_pay4]
  simp only [pay3_row, ← EReal.coe_mul]
theorem pay5_row (N : Vec Ideal S1024x1 .f32) (r : Fin 1024) : (k0_pay5 N (ix2 r 0) : EReal) = (even (shift (rowMargin N r)) : EReal) := by
  pointwise [k0_pay5]
  simp only [pay4_row, word_n720, word_c24, word_nHalf, ← EReal.coe_one, ← EReal.coe_mul, ← EReal.coe_add, even]
theorem pay6_row (N : Vec Ideal S1024x1 .f32) (r : Fin 1024) :
    (k0_pay6 (k0_pay3 N) (k0_pay4 N) (ix2 r 0) : EReal) = (odd (shift (rowMargin N r)) : EReal) := by
  pointwise [k0_pay6]
  simp only [pay3_row, pay4_row, word_n5040, word_c120, word_n6, ← EReal.coe_one, ← EReal.coe_mul, ← EReal.coe_add, odd]
theorem pay7_row (N : Vec Ideal S1024x1 .f32) (r : Fin 1024) :
    (k0_pay7 (k0_pay5 N) (ix2 r 0) : EReal) = (even (shift (rowMargin N r)) : EReal) := by
  pointwise [k0_pay7]
  exact pay5_row N r
theorem pay8_row (N : Vec Ideal S1024x1 .f32) (r : Fin 1024) :
    (k0_pay8 (k0_pay3 N) (k0_pay4 N) (ix2 r 0) : EReal) = (odd (shift (rowMargin N r)) : EReal) := by
  pointwise [k0_pay8]
  exact pay6_row N r
theorem pay9_row (N : Vec Ideal S1024x1 .f32) (r : Fin 1024) :
    (k0_pay9 (k0_pay2 N) (ix2 r 0) : EReal) = ((pM + pM * rowMargin N r : ℝ) : EReal) := by
  pointwise [k0_pay9]
  simp only [margin_coe, word_pM, ← EReal.coe_mul, ← EReal.coe_add]
theorem pay10_row (N : Vec Ideal S1024x1 .f32) (r : Fin 1024) :
    (k0_pay10 (k0_pay3 N) (k0_pay4 N) (k0_pay5 N) (ix2 r 0) : EReal) = (bound (shift (rowMargin N r)) : EReal) := by
  pointwise [k0_pay10]
  simp only [pay3_row, pay5_row, pay6_row, word_kCos, word_kSin, word_two, word_eps, ← EReal.coe_mul, ← EReal.coe_add,
    EReal.coe_lt_coe_iff, bound, apply_ite ((↑) : ℝ → EReal)]

/-! ## The label's column -/

/-- Comparing with a label moved by the block's start is comparing the column moved by it with the label. -/
theorem shifted_eq (a b l : BitVec 32) : BitVec.ofBool (a == l - b) = 1#1 ↔ a + b = l := by
  rw [show (1#1 : BitVec 1) = BitVec.ofBool true from rfl, BitVec.ofBool_eq_iff_eq, beq_iff_eq]
  exact BitVec.eq_sub_iff_add_eq

/-- The mask of point `i`'s block: the entry's column in the array is its row's label. -/
theorem mask_iff (i : grid0.Coords) (L : Vec Ideal S1024x1 .i32) (r : Fin 1024) (q : Fin 2560) :
    k0_pay12 (F := Ideal) i L (ix2 r q) = 1#1 ↔ BitVec.ofNat 32 ((i 0).val * 2560 + q.val) = L (ix2 r 0) := by
  have e : k0_pay12 (F := Ideal) i L (ix2 r q)
      = BitVec.ofBool (BitVec.ofNat 32 q.val == (L (ix2 r 0) : BitVec 32) - BitVec.ofNat 32 (i 0).val * 2560#32) := by
    pointwise [k0_pay12]
    rfl
  rw [e, show BitVec.ofNat 32 ((i 0).val * 2560 + q.val) = BitVec.ofNat 32 q.val + BitVec.ofNat 32 (i 0).val * 2560#32 from by
    rw [Nat.add_comm, BitVec.ofNat_add, BitVec.ofNat_mul]]
  exact shifted_eq _ _ _

/-- Two columns of one block whose mask is set in one row are the same column. -/
theorem mask_unique {i : grid0.Coords} {L : Vec Ideal S1024x1 .i32} {r : Fin 1024} {q q' : Fin 2560}
    (h : k0_pay12 (F := Ideal) i L (ix2 r q) = 1#1) (h' : k0_pay12 (F := Ideal) i L (ix2 r q') = 1#1) : q' = q := by
  have e := ((mask_iff i L r q').mp h').trans ((mask_iff i L r q).mp h).symm
  have hi : (i 0).val < 40 := (i 0).isLt
  have e' := congrArg BitVec.toNat e
  simp only [BitVec.toNat_ofNat] at e'
  have := q.isLt; have := q'.isLt
  rw [Nat.mod_eq_of_lt (by omega), Nat.mod_eq_of_lt (by omega)] at e'
  exact Fin.ext (by omega)

/-- The row's product with a column of ones picks the cosine at the label, when the label is in the block. -/
theorem pick_label {i : grid0.Coords} {X : Vec Ideal S1024x2560 .f32} {L : Vec Ideal S1024x1 .i32} {r : Fin 1024} {q : Fin 2560}
    (h : k0_pay12 (F := Ideal) i L (ix2 r q) = 1#1) : (k0_pay13 i X L (ix2 r 0) : EReal) = X (ix2 r q) := by
  have e : (k0_pay13 i X L (ix2 r 0) : EReal)
      = ∑ x : Fin 2560, Scalar.select (k0_pay12 (F := Ideal) i L (ix2 r x)) (X (ix2 r x) : EReal) 0 := by
    pointwise [k0_pay13]
  rw [e, Finset.sum_eq_single q]
  · exact select_yes h _ _
  · intro x _ hx
    exact select_no (fun hm => hx (mask_unique h hm)) _ _
  · exact fun hq => absurd (Finset.mem_univ q) hq

/-! ## One entry of a block -/

/-- An entry at its row's label. -/
theorem block_at {i : grid0.Coords} {X : Vec Ideal S1024x2560 .f32} {L : Vec Ideal S1024x1 .i32} (hS : Filled (F := Ideal) N S)
    {r : Fin 1024} {q : Fin 2560} {x : ℝ} (hx : (X (ix2 r q) : EReal) = (x : EReal))
    (h : BitVec.ofNat 32 ((i 0).val * 2560 + q.val) = L (ix2 r 0)) :
    (outBlock (F := Ideal) i X L S (ix2 r q) : EReal) = (atLabel (rowMargin N r) x : EReal) := by
  have hm := (mask_iff i L r q).mpr h
  unfold outBlock
  rw [hS.1, hS.2.1, hS.2.2.1, hS.2.2.2]
  pointwise [k0_pay1, k0_pay11, k0_pay14, k0_pay15, k0_pay16]
  rw [select_yes hm, pick_label hm, hx]
  simp only [pay7_row, pay8_row, pay9_row, pay10_row, word_kCos, word_64, ← EReal.coe_one, ← EReal.coe_zero, ← EReal.coe_mul,
    ← EReal.coe_sub, ← coe_max, EReal.coe_lt_coe_iff, sqrt_coe (le_max_right _ (0 : ℝ)), ← apply_ite ((↑) : ℝ → EReal), atLabel]

/-- An entry at any other column. -/
theorem block_off {i : grid0.Coords} {X : Vec Ideal S1024x2560 .f32} {L : Vec Ideal S1024x1 .i32}
    {r : Fin 1024} {q : Fin 2560} {x : ℝ} (hx : (X (ix2 r q) : EReal) = (x : EReal))
    (h : ¬ BitVec.ofNat 32 ((i 0).val * 2560 + q.val) = L (ix2 r 0)) :
    (outBlock (F := Ideal) i X L S (ix2 r q) : EReal) = (offLabel x : EReal) := by
  have hm : ¬ k0_pay12 (F := Ideal) i L (ix2 r q) = 1#1 := fun e => h ((mask_iff i L r q).mp e)
  unfold outBlock
  pointwise [k0_pay1, k0_pay11, k0_pay14, k0_pay15, k0_pay16]
  rw [select_no hm, hx]
  simp only [word_kCos, word_64, ← coe_min, ← EReal.coe_mul, offLabel]

end Cert.KernelIdeal.Hand

end
-- ==== Proof.Margin.lean ====
/-
  The margin of a row: the kernel computes it once, at the first grid point, the reference from the whole
  column of norms. They are one number, whatever the norms are.
-/
module

public import proofs.«01_k».proof.Proof.Entry
public import proofs.«01_k».proof.Proof.Gen.ReferenceIdeal.Run

@[expose] public section

set_option maxRecDepth 16384

noncomputable section

namespace Cert.Margin

open Idealize.ShloMosaic Cert.Words

/-- The count of rows less the one degree of freedom, in the host's arithmetic, is the kernel's `1023`. -/
theorem degrees_of_freedom : (Ideal.ofBits .f32 0x44800000#32 - (FloatOps.sitofp (F := Ideal) .f32 1#32 : EReal) : EReal)
    = Ideal.ofBits .f32 0x447FC000#32 := by
  rw [word_1024, word_1023, show (FloatOps.sitofp (F := Ideal) .f32 1#32 : EReal) = ((1 : ℝ) : EReal) from by
    change ((((1#32 : BitVec 32).toInt : ℝ)) : EReal) = _
    simp, ← EReal.coe_sub]
  norm_num

/-- It is positive, so the host's guard of the variance is never taken. -/
theorem degrees_pos : (0 : EReal) < Ideal.ofBits .f32 0x447FC000#32 := by
  rw [word_1023]; exact EReal.coe_pos.mpr (by norm_num)

end Cert.Margin

namespace Cert.ReferenceIdeal.Hand

open Cert.ReferenceIdeal Cert.ReferenceIdeal.Gen Cert.ReferenceIdeal.Value Cert.Margin
open Idealize.ShloMosaic Idealize.ShloMosaic.TcCoe Idealize.SL.Sem

/-- The reference's margin of row `r` is the kernel's. -/
theorem margin_row (V : Valuation τ sig (Elt Ideal)) (r : Fin 1024) : (res_main_v15 (F := Ideal) V (ix2 r 0) : EReal)
    = KernelIdeal.Gen.k0_pay2 (F := Ideal) (V (Proc.devRef .tc main_arg1)) (ix2 r 0) := by
  pointwise [res_main_v15, res_main_v0, res_main_call1_call0_v5, res_main_call1_call0_v8, KernelIdeal.Gen.k0_pay2, id]
  rw [degrees_of_freedom, if_pos degrees_pos]
  simp only [Fin.sum_univ_one, Fin.isValue]
  rfl

end Cert.ReferenceIdeal.Hand

end
-- ==== Proof.Domain.lean ====
/-
  What the precondition says of the arguments, and what the angle of such a cosine is: every cosine is a real number between
  `low` and 1, no label is -1; the cosine and sine of its angle; and the shifted angle never reaches the upper clip.
-/
module

public import proofs.«01_k».proof.Proof.Entry
public import proofs.«01_k».proof.Proof.Gen.Pre_cosines_and_labels
public import Idealize.ShloMosaic.Lib.ReduceAll
public import Idealize.ShloMosaic.Lib.Pointwise
public import Mathlib.Analysis.SpecialFunctions.Trigonometric.Inverse

@[expose] public section

noncomputable section

namespace Cert.Pre_cosines_and_labels.Hand

open Cert.Pre_cosines_and_labels Cert.Pre_cosines_and_labels.Gen Cert.Words
open Idealize.ShloMosaic

/-- An extended real between two reals is a real between them. -/
theorem real_between {y : EReal} {a b : ℝ} (ha : (a : EReal) ≤ y) (hb : y ≤ (b : EReal)) : ∃ x : ℝ, y = (x : EReal) ∧ a ≤ x ∧ x ≤ b := by
  induction y with
  | bot => exact absurd (lt_of_lt_of_le (EReal.bot_lt_coe _) ha) (lt_irrefl _)
  | top => exact absurd (lt_of_le_of_lt hb (EReal.coe_lt_top _)) (lt_irrefl _)
  | coe x => exact ⟨x, rfl, EReal.coe_le_coe_iff.mp ha, EReal.coe_le_coe_iff.mp hb⟩

/-- A comparison's bit is set when what it compares holds. -/
theorem ofBool_one {P : Prop} [Decidable P] (h : BitVec.ofBool (decide P) = 1#1) : P := by
  by_contra hn
  rw [decide_eq_false hn] at h
  exact absurd h (by decide)

/-- The precondition, read: the cosines are reals between `low` and 1, and no label is -1. -/
theorem reads {A : FVec Ideal S1024x100000 .f32} {N : FVec Ideal S1024x1 .f32} {L : IVec S1024 32}
    (h : fn (F := Ideal) A N L = fun _ => 1#1) :
    (∀ r q, ∃ x : ℝ, (A (ix2 r q) : EReal) = (x : EReal) ∧ low ≤ x ∧ x ≤ 1) ∧ ∀ r, L (ix1 r) ≠ 4294967295#32 := by
  have h0 := congrFun h ix0
  unfold fn at h0
  obtain ⟨h1, hL⟩ := IntOp.andi_eq_one.1 h0
  obtain ⟨hlo, hhi⟩ := IntOp.andi_eq_one.1 h1
  haveI : Subsingleton S_.Idx := ⟨fun a b => funext fun k => k.elim0⟩
  refine ⟨fun r q => ?_, fun r => ?_⟩
  · have ha := Host.reduce_andi_all _ _ _ _ _ hlo (ix2 r q)
    have hb := Host.reduce_andi_all _ _ _ _ _ hhi (ix2 r q)
    have ha' : Ideal.ofBits .f32 0xBF666666#32 ≤ (A (ix2 r q) : EReal) := ofBool_one ha
    have hb' : (A (ix2 r q) : EReal) ≤ Ideal.ofBits .f32 0x3F800000#32 := ofBool_one hb
    rw [word_low] at ha'
    rw [show Ideal.ofBits .f32 0x3F800000#32 = ((1 : ℝ) : EReal) from by simp] at hb'
    exact real_between ha' hb'
  · have hl := Host.reduce_andi_all _ _ _ _ _ hL (ix1 r)
    intro e
    have hl' : IntOp.cmpi .ne (L (ix1 r)) 4294967295#32 = 1#1 := hl
    rw [e] at hl'
    exact absurd hl' (by decide)

end Cert.Pre_cosines_and_labels.Hand

namespace Cert.Margin

open Idealize.ShloMosaic Cert.Words

variable {x : ℝ}

theorem low_neg_one (h : low ≤ x) : -1 ≤ x := le_trans (by unfold low; norm_num) h

/-- The angle of a cosine in range is its arccosine. -/
theorem acos_coe (h : low ≤ x) (h1 : x ≤ 1) : Ideal.acos (x : EReal) = (Real.arccos x : ℝ) := by
  change (if -1 ≤ x ∧ x ≤ 1 then ((Real.arccos x : ℝ) : EReal) else ⊥) = _
  rw [if_pos ⟨low_neg_one h, h1⟩]

/-- Whatever shift of at most `pM` is added, the angle stays below the upper clip. -/
theorem angle_below {d : ℝ} (h : low ≤ x) (h1 : x ≤ 1) (hd : d ≤ pM) : Real.arccos x + d ≤ piEps := by
  by_contra hn
  have hb : piEps - pM < Real.arccos x := by linarith
  have hc : Real.cos (Real.arccos x) < Real.cos (piEps - pM) :=
    Real.strictAntiOn_cos ⟨by unfold piEps pM; norm_num, le_trans hb.le (Real.arccos_le_pi x)⟩
      ⟨Real.arccos_nonneg x, Real.arccos_le_pi x⟩ hb
  rw [Real.cos_arccos (low_neg_one h) h1] at hc
  have hq := Real.cos_bound (x := (piEps - pM) / 4) (by rw [abs_of_nonneg] <;> (unfold piEps pM; norm_num))
  have e2 := Real.cos_two_mul ((piEps - pM) / 4)
  have e4 := Real.cos_two_mul (2 * ((piEps - pM) / 4))
  rw [show 2 * (2 * ((piEps - pM) / 4)) = piEps - pM from by ring, e2] at e4
  have hu : Real.cos ((piEps - pM) / 4) ≤ 0.777 := by
    have := (abs_le.mp hq).2
    rw [abs_of_nonneg (by unfold piEps pM; norm_num)] at this
    refine le_trans (sub_le_iff_le_add.mp this) ?_
    unfold piEps pM; norm_num
  have hl : 0.75 ≤ Real.cos ((piEps - pM) / 4) := by
    have := (abs_le.mp hq).1
    rw [abs_of_nonneg (by unfold piEps pM; norm_num)] at this
    refine le_trans ?_ (sub_le_iff_le_add'.mpr (neg_le_sub_iff_le_add'.mp this))
    unfold piEps pM; norm_num
  generalize Real.cos ((piEps - pM) / 4) = k at hu hl e4
  have hk : 0.125 ≤ 2 * k ^ 2 - 1 ∧ 2 * k ^ 2 - 1 ≤ 0.21 := by constructor <;> nlinarith
  have : low ≤ -0.9 + 0.0001 ∧ -0.9 - 0.0001 ≤ low := by unfold low; norm_num
  nlinarith [hk.1, hk.2]

/-- A margin's shift is at most `pM`. -/
theorem shift_le {t : ℝ} (h : -1 ≤ t) : shift t ≤ pM := by
  have : 0 < pM := by unfold pM; norm_num
  unfold shift; nlinarith
theorem shift_ge {t : ℝ} (h : t ≤ 1) : -pM ≤ shift t := by
  have : 0 < pM := by unfold pM; norm_num
  unfold shift; nlinarith

end Cert.Margin

end
-- ==== Proof.Reference.lean ====
/-
  One entry of the reference's result, as a function of real numbers: the label's mask, the angular shift, the polynomial
  for the cosine of the shifted angle with its two clips, and the margin taken off.
-/
module

public import proofs.«01_k».proof.Proof.Margin
public import proofs.«01_k».proof.Proof.Domain

@[expose] public section

set_option maxRecDepth 16384

noncomputable section

namespace Cert.Margin

open Idealize.ShloMosaic Cert.Words

/-- The reference's cosine after the shift `d` of the angle of cosine `x`: clipped at the lower angle, else the polynomial. -/
def shifted (d x : ℝ) : ℝ :=
  if d < eps ∧ kCos * even (-d) - kSin * odd (-d) < x then kCos else x * even d - √(1 - x * x) * odd d

theorem even_neg (d : ℝ) : even (-d) = even d := by unfold even; ring
theorem odd_neg (d : ℝ) : odd (-d) = -odd d := by unfold odd; ring

variable {x : ℝ}

/-- At a label the kernel's entry is the reference's. -/
theorem atLabel_eq (t : ℝ) (h : low ≤ x) (h1 : x ≤ 1) :
    (shifted (shift t) x - (pM + pM * t)) * 64 = atLabel t x := by
  have hm : max (1 - x * x) 0 = 1 - x * x := max_eq_left (by nlinarith [low_neg_one h])
  unfold shifted atLabel bound
  rw [even_neg, odd_neg, hm, mul_neg, sub_neg_eq_add]
  by_cases hg : shift t < eps
  · simp only [hg, true_and, if_true]; ring
  · simp only [hg, false_and, if_false]
    rw [if_neg (by linarith)]; ring

/-- Off the labels nothing shifts: the reference only clips. -/
theorem offLabel_eq (x : ℝ) : (shifted 0 x - 0) * 64 = offLabel x := by
  have he : even (-0) = 1 := by unfold even; norm_num
  have he' : even 0 = 1 := by unfold even; norm_num
  have ho : odd (-0) = 0 := by unfold odd; norm_num
  have ho' : odd 0 = 0 := by unfold odd; norm_num
  have hp : (0 : ℝ) < eps := by unfold eps; norm_num
  unfold shifted offLabel
  rw [he, ho, he', ho']
  simp only [hp, true_and, mul_one, mul_zero, sub_zero]
  by_cases hk : kCos < x
  · rw [if_pos hk, min_eq_right hk.le]
  · rw [if_neg hk, min_eq_left (not_lt.mp hk)]

/-- A set bit, and an unset one, as numbers. -/
theorem bit_one : (FloatOps.uitofp (F := Ideal) .f32 1#1 : EReal) = 1 := by
  change ((((1#1 : BitVec 1).toNat : ℝ)) : EReal) = 1
  simp
theorem bit_zero : (FloatOps.uitofp (F := Ideal) .f32 0#1 : EReal) = 0 := by
  change ((((0#1 : BitVec 1).toNat : ℝ)) : EReal) = 0
  simp

/-- The label's mask as a number: whether the column is the row's label, the label being a class. -/
theorem onehot_number (l : BitVec 32) (q : ℕ) (h : l ≠ 4294967295#32) :
    (FloatOps.uitofp (F := Ideal) .f32 (IntOp.cmpi .eq (Scalar.select (IntOp.cmpi .ne l 4294967295#32) l 0#32) (BitVec.ofNat 32 q))
      * FloatOps.uitofp (F := Ideal) .f32 (IntOp.cmpi .ne l 4294967295#32) : EReal)
      = ((if BitVec.ofNat 32 q = l then 1 else 0 : ℝ) : EReal) := by
  have hb : IntOp.cmpi .ne l 4294967295#32 = 1#1 := by
    change BitVec.ofBool (l != 4294967295#32) = _
    rw [bne_iff_ne.mpr h]; rfl
  rw [hb, select_yes rfl, bit_one, mul_one]
  change (FloatOps.uitofp (F := Ideal) .f32 (BitVec.ofBool (l == BitVec.ofNat 32 q)) : EReal) = _
  by_cases e : BitVec.ofNat 32 q = l
  · rw [if_pos e, beq_iff_eq.mpr e.symm]; exact bit_one
  · rw [if_neg e, beq_eq_false_iff_ne.mpr (fun h => e h.symm)]; exact bit_zero

/-- The cosine and the sine of an angle, and the lower and upper sides of a comparison of reals, as bits. -/
theorem cos_coe (x : ℝ) : Ideal.cos (x : EReal) = (Real.cos x : ℝ) := rfl
theorem sin_coe (x : ℝ) : Ideal.sin (x : EReal) = (Real.sin x : ℝ) := rfl

/-- Half of a real. -/
theorem half_coe (x : ℝ) : Ideal.div (x : EReal) ((2 : ℝ) : EReal) = ((x * (1 / 2) : ℝ) : EReal) := by
  rw [Ideal.div_coe (by norm_num), ← EReal.coe_mul]

/-- Two comparisons joined select by the conjunction. -/
theorem select_both {α : Type} (P Q : Prop) [Decidable P] [Decidable Q] (x y : α) :
    Scalar.select (IntOp.andi (BitVec.ofBool (decide P)) (BitVec.ofBool (decide Q))) x y = if P ∧ Q then x else y := by
  by_cases hP : P <;> by_cases hQ : Q <;> simp [hP, hQ, Scalar.select, IntOp.andi]

end Cert.Margin

namespace Cert.ReferenceIdeal.Hand

open Cert.ReferenceIdeal Cert.ReferenceIdeal.Gen Cert.ReferenceIdeal.Value Cert.Margin Cert.Words
open Idealize.ShloMosaic Idealize.ShloMosaic.TcCoe Idealize.SL.Sem

variable (V : Valuation τ sig (Elt Ideal))

/-- The cosines, the norms and the labels in the reference's memory. -/
def cosines : FVec Ideal S1024x100000 .f32 := V (Proc.devRef .tc main_arg0)
def norms : FVec Ideal S1024x1 .f32 := V (Proc.devRef .tc main_arg1)
def labels : IVec S1024 32 := V (Proc.devRef .tc main_arg2)

/-- The reference's shift at an entry: the row's at its label, none elsewhere. -/
def shiftAt (r : Fin 1024) (q : Fin 100000) : ℝ :=
  if BitVec.ofNat 32 q.val = labels V (ix1 r) then shift (KernelIdeal.Hand.rowMargin (norms V) r) else 0

variable {V} {r : Fin 1024} {q : Fin 100000} {x : ℝ} (hL : labels V (ix1 r) ≠ 4294967295#32)
  (hx : (cosines V (ix2 r q) : EReal) = (x : EReal)) (h : low ≤ x) (h1 : x ≤ 1)

theorem margin_real (V : Valuation τ sig (Elt Ideal)) (r : Fin 1024) :
    (res_main_v15 (F := Ideal) V (ix2 r 0) : EReal) = (KernelIdeal.Hand.rowMargin (norms V) r : EReal) :=
  (margin_row V r).trans (KernelIdeal.Hand.margin_coe _ r)

include hL

theorem class_bit : res_main_v17 (F := Ideal) V (ix1 r) = 1#1 := by
  change BitVec.ofBool (labels V (ix1 r) != 4294967295#32) = _
  rw [bne_iff_ne.mpr hL]; rfl

theorem mask_number : (res_main_v23 (F := Ideal) V (ix2 r q) : EReal)
    = ((if BitVec.ofNat 32 q.val = labels V (ix1 r) then 1 else 0 : ℝ) : EReal) := by
  rw [← onehot_number (labels V (ix1 r)) q.val hL]
  pointwise [res_main_v23, res_main_v17, id]
  rfl

theorem shift_number : (res_main_v27 (F := Ideal) V (ix2 r q) : EReal) = (shiftAt V r q : EReal) := by
  have e : ∀ a b : EReal, res_main_v23 (F := Ideal) V (ix2 r q) = a → res_main_v15 (F := Ideal) V (ix2 r 0) = b →
      (res_main_v27 (F := Ideal) V (ix2 r q) : EReal) = a * (Ideal.ofBits .f32 0xBECCCCCD#32 * b) := by
    rintro _ _ rfl rfl
    pointwise [res_main_v27]
  rw [e _ _ (mask_number hL) (margin_real V r), word_nM, ← EReal.coe_mul, ← EReal.coe_mul]
  unfold shiftAt shift
  split_ifs
  · rw [one_mul]
  · rw [zero_mul]

theorem shift_neg : (res_main_v75 (F := Ideal) V (ix2 r q) : EReal) = ((-shiftAt V r q : ℝ) : EReal) := by
  rw [EReal.coe_neg, ← shift_number hL]
  pointwise [res_main_v75]

omit hL in
include hx h h1 in
theorem angle_number : (res_main_v28 (F := Ideal) V (ix2 r q) : EReal) = ((Real.arccos x : ℝ) : EReal) := by
  rw [← acos_coe h h1, ← hx]
  rfl

theorem squares : (res_main_v36 (F := Ideal) V (ix2 r q) : EReal) = ((shiftAt V r q * shiftAt V r q : ℝ) : EReal)
    ∧ (res_main_v41 (F := Ideal) V (ix2 r q) : EReal) = ((shiftAt V r q * shiftAt V r q : ℝ) : EReal)
    ∧ (res_main_v52 (F := Ideal) V (ix2 r q) : EReal) = ((shiftAt V r q * shiftAt V r q : ℝ) : EReal)
    ∧ (res_main_v58 (F := Ideal) V (ix2 r q) : EReal) = ((shiftAt V r q * shiftAt V r q : ℝ) : EReal) := by
  rw [EReal.coe_mul, ← shift_number hL]
  exact ⟨rfl, rfl, rfl, rfl⟩

theorem squares_neg : (res_main_v81 (F := Ideal) V (ix2 r q) : EReal) = ((-shiftAt V r q * -shiftAt V r q : ℝ) : EReal)
    ∧ (res_main_v86 (F := Ideal) V (ix2 r q) : EReal) = ((-shiftAt V r q * -shiftAt V r q : ℝ) : EReal)
    ∧ (res_main_v97 (F := Ideal) V (ix2 r q) : EReal) = ((-shiftAt V r q * -shiftAt V r q : ℝ) : EReal)
    ∧ (res_main_v103 (F := Ideal) V (ix2 r q) : EReal) = ((-shiftAt V r q * -shiftAt V r q : ℝ) : EReal) := by
  rw [EReal.coe_mul, ← shift_neg hL]
  exact ⟨rfl, rfl, rfl, rfl⟩

omit hL in
/-- The shift is at most `pM` at every entry. -/
theorem shiftAt_le (V : Valuation τ sig (Elt Ideal)) (r : Fin 1024) (q : Fin 100000) : shiftAt V r q ≤ pM := by
  unfold shiftAt
  split_ifs
  · exact shift_le (KernelIdeal.Hand.margin_mem _ r).1
  · unfold pM; norm_num

include hx h h1

/-- The reference's shifted cosine at an entry. -/
theorem shifted_number : (res_main_v120 (F := Ideal) V (ix2 r q) : EReal) = (shifted (shiftAt V r q) x : EReal) := by
  obtain ⟨s1, s2, s3, s4⟩ := squares (q := q) hL
  obtain ⟨n1, n2, n3, n4⟩ := squares_neg (q := q) hL
  pointwise [res_main_v120, id]
  rw [select_yes (class_bit hL), select_both]
  simp only [s1, s2, s3, s4, n1, n2, n3, n4, shift_number hL, shift_neg hL, angle_number hx h h1, cos_coe, sin_coe,
    Real.cos_arccos (low_neg_one h) h1, Real.sin_arccos, word_kCos, word_kSin, word_eps, word_two, word_c24, word_c720, word_c6, word_c120,
    word_c5040, word_piEps, ← EReal.coe_one, ← EReal.coe_mul, ← EReal.coe_add, ← EReal.coe_sub, half_coe, EReal.coe_lt_coe_iff]
  rw [if_neg (not_lt.mpr (angle_below h h1 (shiftAt_le V r q))), ← apply_ite ((↑) : ℝ → EReal)]
  refine congrArg _ ?_
  unfold shifted
  generalize shiftAt V r q = d
  have e1 : even d = 1 - d * d * (1 / 2) + d * d * (d * d) * c24 - d * d * (d * d * (d * d)) * c720 := by unfold even; ring
  have e2 : odd d = d - d * d * d * c6 + d * (d * d * (d * d)) * c120 - d * (d * d) * (d * d * (d * d)) * c5040 := by unfold odd; ring
  have e3 : even (-d) = 1 - -d * -d * (1 / 2) + -d * -d * (-d * -d) * c24 - -d * -d * (-d * -d * (-d * -d)) * c720 := by unfold even; ring
  have e4 : odd (-d) = -d - -d * -d * -d * c6 + -d * (-d * -d * (-d * -d)) * c120 - -d * (-d * -d) * (-d * -d * (-d * -d)) * c5040 := by
    unfold odd; ring
  rw [e1, e2, e3, e4, pow_two]

end Cert.ReferenceIdeal.Hand

end
-- ==== Proof.Blocks.lean ====
/-
  The result's array at the real numbers, and the blocks of the arrays: the part of the block the body stores that lies
  inside the array is that block of the result's array.
-/
module

public import proofs.«01_k».proof.Proof.Entry
public import proofs.«01_k».proof.Proof.Frame
public import Idealize.ShloMosaic.Lib.Pipeline.ValueKit

@[expose] public section

set_option maxRecDepth 16384

noncomputable section

namespace Cert.KernelIdeal.Hand

open Idealize.ShloMosaic Idealize.ShloMosaic.TcCoe Cert.KernelIdeal Cert.KernelIdeal.Gen Cert.Margin Cert.Words

/-- The result's array: at the label's column of a row the shifted cosine less the additive margin, elsewhere the clipped
    cosine, each scaled. -/
def outArr (A : Vec Ideal S1024x100000 .f32) (N : Vec Ideal S1024x1 .f32) (L : Vec Ideal S1024x1 .i32) : FVec Ideal S1024x100000 .f32 :=
  fun p => if BitVec.ofNat 32 (p 1).val = L (ix2 (p 0) 0) then ((atLabel (rowMargin N (p 0)) (A p : EReal).toReal : ℝ) : EReal)
    else ((offLabel (A p : EReal).toReal : ℝ) : EReal)

variable (m : (ℓ : Loc nD τ sig) → Buf (Elt Ideal) ℓ)

/-- The cosines of device `c`. -/
def cosArr (c : Dev nD) : Vec Ideal S1024x100000 .f32 := m ((c : Thread nD τ).loc main_arg0)
/-- The norms of device `c`. -/
def normArr (c : Dev nD) : Vec Ideal S1024x1 .f32 := m ((c : Thread nD τ).loc main_arg1)
/-- The labels of device `c`, one per row. -/
def labelArr (c : Dev nD) : Vec Ideal S1024x1 .i32 := fun y => (m ((c : Thread nD τ).loc main_arg2) : Vec Ideal S1024 .i32) (ix1 (y 0))

/-- The block index of the cosines and of the result at point `t`. -/
theorem index_0 (t : Fin cfg0.N) : win0_0.index t = ![0, t.val] := by
  have h : win0_0.index t = ![0, (BitVec.ofNat 32 (grid0.coords t 0).val).toNat] := rfl
  have ht : t.val < 40 := lt_of_lt_of_eq t.isLt N_0
  rw [h, coords_val, BitVec.toNat_ofNat, Nat.mod_eq_of_lt (by omega)]
theorem index_3 (t : Fin cfg0.N) : win0_3.index t = ![0, t.val] := index_0 t
theorem index_1 (t : Fin cfg0.N) : win0_1.index t = ![0, 0] := rfl
theorem index_2 (t : Fin cfg0.N) : win0_2.index t = ![0, 0] := rfl

/-- The labels' block is all the labels. -/
theorem labels_block (c : Dev nD) (t : Fin cfg0.N) : iblk m c 1 t = labelArr m c := by
  funext y
  blk_simp [iblk, index_1]
  entry_read
  pointwise [labelArr]
  blk_ext [index_1]
/-- The norms' block is all the norms. -/
theorem norms_block (c : Dev nD) (t : Fin cfg0.N) : iblk m c 2 t = normArr m c := by
  funext y
  blk_ext [iblk, V_main_arg1, normArr, index_2]

/-- An entry of the cosines' block. -/
theorem cos_block (c : Dev nD) (t : Fin cfg0.N) (j : (win0_0.xblock (grid0.coords t)).Idx) (p : S1024x100000.Idx)
    (h0 : (p 0).val = (j 0).val) (h1 : (p 1).val = t.val * 2560 + (j 1).val) : iblk m c 0 t j = cosArr m c p := by
  blk_ext [iblk, V_main_arg0, cosArr, index_0 t]

/-- The part inside the array of the block the body stores at point `t`, whatever the buffer of cosines holds past the
    array's end, is that block of the result's array. -/
theorem out_block (c : Dev nD) (t : Fin cfg0.N) (hA : ∀ p, (cosArr m c p : EReal) = ((cosArr m c p : EReal).toReal : ℝ))
    {S : S1024x4.Idx → EReal} (hS : Filled (F := Ideal) (normArr m c) S) (d : S1024x2560.Idx → EReal) :
    win0_3.cut (grid0.coords t) (outBlock (F := Ideal) (grid0.coords t) (win0_0.fill (grid0.coords t) d (iblk m c 0 t)) (labelArr m c) S)
      = (win0_3.blk t).view.read (Elt Ideal) (outArr (cosArr m c) (normArr m c) (labelArr m c)) := by
  funext j
  have hj0 : (j 0).val < 1024 := (win0_3.xinj (grid0.coords t) j 0).isLt
  have hj1 : (j 1).val < 2560 := (win0_3.xinj (grid0.coords t) j 1).isLt
  obtain ⟨p, hp⟩ : ∃ p : S1024x100000.Idx, p = (win0_3.blk t).view.emb j := ⟨_, rfl⟩
  have h0 : (p 0).val = (j 0).val := by rw [hp]; blk_simp [index_3 t]
  have h1 : (p 1).val = t.val * 2560 + (j 1).val := by rw [hp]; blk_simp [index_3 t]
  have hR : (win0_3.blk t).view.read (Elt Ideal) (outArr (cosArr m c) (normArr m c) (labelArr m c)) j
      = outArr (cosArr m c) (normArr m c) (labelArr m c) p := by rw [hp]; rfl
  have hx : win0_3.xinj (grid0.coords t) j = ix2 (⟨(j 0).val, hj0⟩ : Fin 1024) (⟨(j 1).val, hj1⟩ : Fin 2560) := by
    funext a; match a with
    | ⟨0, _⟩ => rfl
    | ⟨1, _⟩ => rfl
  have hp0 : p 0 = (⟨(j 0).val, hj0⟩ : Fin 1024) := Fin.ext h0
  have hX : (win0_0.fill (grid0.coords t) d (iblk m c 0 t) (ix2 (⟨(j 0).val, hj0⟩ : Fin 1024) (⟨(j 1).val, hj1⟩ : Fin 2560)) : EReal)
      = ((cosArr m c p : EReal).toReal : ℝ) := by
    rw [← hA p, ← cos_block m c t j p h0 h1, ← hx]
    exact congrFun (win0_0.cut_fill (grid0.coords t) d (iblk m c 0 t)) j
  rw [hR, Pipeline.Window.cut_apply, hx]
  unfold outArr
  rw [hp0, h1]
  have hc := coords_val t
  split
  · rename_i h
    exact block_at hS hX (by rw [hc]; exact h)
  · rename_i h
    exact block_off hX (by rw [hc]; exact h)

end Cert.KernelIdeal.Hand

end
-- ==== Proof.Run.lean ====
/-
  The kernel's run at the real numbers: the scratch holds the norms' columns from the first point on, every point leaves its
  block of the result's array, and the blocks cover the array.
-/
module

public import proofs.«01_k».proof.Proof.Blocks

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The result's array on device `c`. -/
def outOf (c : Dev nD) : FVec Ideal S1024x100000 .f32 := outArr (cosArr m c) (normArr m c) (labelArr m c)

/-- The scratch: anything before the first point, the norms' columns after it. -/
def scratchAt (c : Dev nD) (n : ℕ) : sProp 𝕄 :=
  iprop(∃ S, ⌜n ≠ 0 → Filled (F := Ideal) (normArr m c) S⌝ ∗ owns (c : Thread nD τ) (Memref.whole cc0_scratch0) fullShare S)

/-- The pipeline's proof data: the inputs' buffers at their blocks, the result's at its block of the result's array. -/
def dats (_ : Fin 1) (c : Dev nD) : Dat τ (Elt Ideal) Unit ℕ (UR sig nD τ) ℕ cfg0 c where
  A w := V m c (Pipeline.arrRef spec0 w)
  after w t := match w with
    | ⟨0, _⟩ => cosBlock m c t
    | ⟨1, _⟩ => iblk m c 1 t
    | ⟨2, _⟩ => iblk m c 2 t
    | ⟨3, _⟩ => win0_3.fill (grid0.coords t) (fun _ => (0 : EReal)) ((win0_3.blk t).view.read (Elt Ideal) (outOf m c))
  Φ t := iprop(scratchAt m c t.val ∗ ∃ r, prngReg c r)
  q _ := fullShare
  owed _ := 0

theorem dats_A (c : Dev nD) (w : Fin cfg0.W) : (dats m 0 c).A w = V m c (Pipeline.arrRef spec0 w) := by
  dsimp only [dats]

theorem before_0 (c : Dev nD) (t : Fin cfg0.N) (d) :
    (dats m 0 c).before (0 : Fin 4) t d = win0_0.fill (grid0.coords t) d (iblk m c 0 t) := by
  unfold Dat.before; rw [if_pos (fetch0_0 t)]; rfl
theorem before_1 (c : Dev nD) (t : Fin cfg0.N) (d) : (dats m 0 c).before (1 : Fin 4) t d = iblk m c 1 t :=
  before0_1_of m (dats m 0 c) (dats_A m c 1) (fun t => by dsimp only [dats]) t d
theorem before_2 (c : Dev nD) (t : Fin cfg0.N) (d) : (dats m 0 c).before (2 : Fin 4) t d = iblk m c 2 t :=
  before0_2_of m (dats m 0 c) (dats_A m c 2) (fun t => by dsimp only [dats]) t d

/-- The body's triple at any point: the scratch is filled after it, and the result's buffer holds the block computed from it. -/
theorem body_point (c : Dev nD) (i : grid0.Coords) (n n' : ℕ) (hn : n = (i 0).val)
    (arg1 : Memref sig .tc .vmem S1024x2560 .f32) (harg1 : arg1.IsWhole) (arg2 : Memref sig .tc .vmem S1024x1 .i32) (harg2 : arg2.IsWhole)
    (arg3 : Memref sig .tc .vmem S1024x1 .f32) (harg3 : arg3.IsWhole) (arg4 : Memref sig .tc .vmem S1024x2560 .f32) (harg4 : arg4.IsWhole)
    (X : Vec Ideal S1024x2560 .f32) (L : Vec Ideal S1024x1 .i32) (K : PUnit → sProp 𝕄) :
    iprop(owns (c : Thread nD τ) arg1 fullShare X ∗ owns (c : Thread nD τ) arg2 fullShare L ∗ owns (c : Thread nD τ) arg3 fullShare (normArr m c)
        ∗ (∃ d, owns (c : Thread nD τ) arg4 fullShare d) ∗ scratchAt m c n
        ∗ (∀ S, iprop(⌜Filled (F := Ideal) (normArr m c) S⌝ ∗ owns (c : Thread nD τ) arg1 fullShare X ∗ owns (c : Thread nD τ) arg2 fullShare L
            ∗ owns (c : Thread nD τ) arg3 fullShare (normArr m c)
            ∗ owns (c : Thread nD τ) arg4 fullShare (outBlock (F := Ideal) i X L S) ∗ scratchAt m c n') -∗ K ⟨⟩))
      ⊢ wp frame (wpE (defs₀ (F := Ideal)) Variants.none c none) Set.univ
          (cc0__adaface_kernel i arg1 harg1 arg2 harg2 arg3 harg3 arg4 harg4 (Memref.whole cc0_scratch0) (Memref.isWhole_whole _)) K := by
  unfold scratchAt
  by_cases hi : (i 0).val = 0
  · iintro ⟨H1, H2, H3, H4, ⟨%S0, -, H5⟩, Hk⟩
    iapply (body_first c i arg1 harg1 arg2 harg2 arg3 harg3 arg4 harg4 (Memref.whole cc0_scratch0) (Memref.isWhole_whole _) X L (normArr m c) hi K)
    isplitl [H1]; · iexact H1
    isplitl [H2]; · iexact H2
    isplitl [H3]; · iexact H3
    isplitl [H4]; · iexact H4
    isplitl [H5]; · iexists S0; iexact H5
    iintro %S ⟨%hS, H1, H2, H3, H4, H5⟩
    iapply Hk
    isplitr; · ipureintro; exact hS
    isplitl [H1]; · iexact H1
    isplitl [H2]; · iexact H2
    isplitl [H3]; · iexact H3
    isplitl [H4]; · iexact H4
    iexists S
    isplitr; · ipureintro; exact fun _ => hS
    iexact H5
  · iintro ⟨H1, H2, H3, H4, ⟨%S, %hS, H5⟩, Hk⟩
    have hF := hS (by rw [hn]; exact hi)
    iapply (body_later c i arg1 harg1 arg2 harg2 arg3 harg3 arg4 harg4 (Memref.whole cc0_scratch0) (Memref.isWhole_whole _) X L (normArr m c) hi S K)
    isplitl [H1]; · iexact H1
    isplitl [H2]; · iexact H2
    isplitl [H3]; · iexact H3
    isplitl [H4]; · iexact H4
    isplitl [H5]; · iexact H5
    iintro ⟨H1, H2, H3, H4, H5⟩
    iapply Hk
    isplitr; · ipureintro; exact hF
    isplitl [H1]; · iexact H1
    isplitl [H2]; · iexact H2
    isplitl [H3]; · iexact H3
    isplitl [H4]; · iexact H4
    iexists S
    isplitr; · ipureintro; exact fun _ => hF
    iexact H5

/-- A buffer whose block is the result's array's is what the point leaves, its own cells past the array kept. -/
theorem handed_back (c : Dev nD) (t : Fin cfg0.N) (B : S1024x2560.Idx → EReal)
    (hB : win0_3.cut (grid0.coords t) B = (win0_3.blk t).view.read (Elt Ideal) (outArr (cosArr m c) (normArr m c) (labelArr m c))) :
    win0_3.fill (grid0.coords t) B (win0_3.cut (grid0.coords t) ((dats m 0 c).after 3 t)) = B := by
  rw [show win0_3.cut (grid0.coords t) ((dats m 0 c).after 3 t) = (win0_3.blk t).view.read (Elt Ideal) (outOf m c) from win0_3.cut_fill _ _ _,
    show (win0_3.blk t).view.read (Elt Ideal) (outOf m c) = win0_3.cut (grid0.coords t) B from hB.symm]
  exact win0_3.fill_cut _ _

variable (hA : ∀ c p, (cosArr m c p : EReal) = ((cosArr m c p : EReal).toReal : ℝ))
include hA

/-- The pipeline's obligation of the body at every point. -/
theorem body_obligation (c : Dev nD) : BodyObligationLoose (dats m 0 c) (defs₀ (F := Ideal)) Variants.none () Set.univ := fun t => by
  rw [bigSep_W0, bigSep_W0, defs₀_row]
  simp only
  rw [show (dats m 0 c).Φ t.succ = iprop(scratchAt m c t.succ.val ∗ ∃ r, prngReg c r) from rfl,
    show (dats m 0 c).Φ t.castSucc = iprop(scratchAt m c t.castSucc.val ∗ ∃ r, prngReg c r) from rfl,
    show (dats m 0 c).owesAt () t.succ = (dats m 0 c).owesAt () t.castSucc from rfl]
  iintro ⟨⟨Hs, Hp⟩, Ho, ⟨%d0, H0⟩, ⟨%d1, H1⟩, ⟨%d2, H2⟩, ⟨%d3, H3⟩⟩
  rw [before_0 m c t d0, before_1 m c t d1, before_2 m c t d2]
  iapply (body_point m c (grid0.coords t) t.castSucc.val t.succ.val (coords_val t).symm _ _ _ _ _ _ _ _
    (win0_0.fill (grid0.coords t) d0 (iblk m c 0 t)) (labelArr m c) _)
  isplitl [H0]; · iexact H0
  isplitl [H1]; · rw [← labels_block m c t]; iexact H1
  isplitl [H2]; · rw [← norms_block m c t]; iexact H2
  isplitl [H3]; · iexists _; iexact H3
  isplitl [Hs]; · iexact Hs
  iintro %S ⟨%hS, H0, H1, H2, H3, Hs⟩
  isplitl [Hs Hp]
  · isplitl [Hs]; · iexact Hs
    iexact Hp
  isplitl [Ho]; · iexact Ho
  isplitl [H0]
  · iexists d0
    have hx : win0_0.cut (grid0.coords t) (cosBlock m c t) = iblk m c 0 t := win0_0.cut_fill _ _ _
    change _ ⊢ owns (c : Thread nD τ) (stage0_0 (cfg0.slots t 0)) fullShare (win0_0.fill (grid0.coords t) d0 (win0_0.cut (grid0.coords t) (cosBlock m c t)))
    rw [hx]
  isplitl [H1]
  · rw [show (dats m 0 c).after 1 t = labelArr m c from labels_block m c t]; iexact H1
  isplitl [H2]
  · rw [show (dats m 0 c).after 2 t = normArr m c from norms_block m c t]; iexact H2
  have hx := out_block m c t (hA c) hS d0
  generalize outBlock (F := Ideal) (grid0.coords t) (win0_0.fill (grid0.coords t) d0 (iblk m c 0 t)) (labelArr m c) S = B at hx ⊢
  iexists B
  have hy : (cfg0.win 3).fill (cfg0.grid.coords t) B ((cfg0.win 3).cut (cfg0.grid.coords t) ((dats m 0 c).after 3 t)) = B :=
    handed_back m c t B hx
  rw [hy]
  iexact H3

omit hA in
/-- Before the first point the scratch holds anything. -/
theorem scratch_in (c : Dev nD) : Pipeline.ΦA spec0 c ⊢ (dats m 0 c).Φ 0 := by
  rw [show (dats m 0 c).Φ 0 = iprop(scratchAt m c 0 ∗ ∃ r, prngReg c r) from rfl]
  unfold Pipeline.ΦA scratchAt
  rw [scopedRest0_eq]
  iintro ⟨⟨%f, Hs⟩, Hp⟩
  isplitl [Hs]
  · iexists f
    isplitr; · ipureintro; exact fun h => absurd rfl h
    rw [owns_whole_eq]; iexists f; isplitr; · ipureintro; rfl
    iexact Hs
  iexact Hp

omit hA in
/-- After the last point what it holds is forgotten. -/
theorem scratch_end (c : Dev nD) : (dats m 0 c).Φ (Fin.last cfg0.N) ⊢ Pipeline.ΦA spec0 c := by
  rw [show (dats m 0 c).Φ (Fin.last cfg0.N) = iprop(scratchAt m c (Fin.last cfg0.N).val ∗ ∃ r, prngReg c r) from rfl]
  unfold Pipeline.ΦA scratchAt
  rw [scopedRest0_eq]
  iintro ⟨⟨%S, -, Hs⟩, Hp⟩
  isplitl [Hs]
  · iapply (scratch_out c S); iexact Hs
  iexact Hp

theorem track_run : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m hA) (hshare := fun c => (dats m 0 c).share_full fun _ => rfl)
    (howed := fun _ _ => rfl) (V := V m) (hmain := hmain m Variants.none) (hA := dats_A m)
    (hin := scratch_in m) (hout := scratch_end m)

omit hA in
/-- After the last point the result's array is `outOf`: every point writes its block back, and the blocks cover the array. -/
theorem final_array (c : Dev nD) : (dats m 0 c).arrAt 3 cfg0.N = outOf m c :=
  (dats m 0 c).arrAt_eq_of_cover 3 (outOf m c)
    (fun t _ => win0_3.cut_fill _ _ _)
    (fun i => Pipeline.Window.Covers.cover (w := win0_3) (by decide +kernel) (Memref.isWhole_whole _) i)

/-- From any memory whose cosines are real numbers, every weakly fair execution of the kernel's @main ends with the result's
    array at `outOf` and the arguments unchanged. -/
theorem run_main : θ_run defs (onTc (τ := τ) (main (F := Ideal))) ⟨m, fun _ => 0, ρ⟩ (fun r => ∀ c : Dev nD,
      r.2.mem ((c.tc : Thread nD τ).loc main_v1) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final_array m c),
      ((h c).1 0).trans (((dats m 0 c).arrAt_in 0 rfl _).trans ((dats_A m c 0).trans (V_main_arg0 m c))),
      ((h c).1 2).trans (((dats m 0 c).arrAt_in 2 rfl _).trans ((dats_A m c 2).trans (V_main_arg1 m c))),
      ((h c).2 main_arg2 (Pipeline.mem_restRefs_of main_arg2 (by decide) (by decide))).trans (V_main_arg2 m c)⟩)
    (track_run m ρ hA)

end Cert.KernelIdeal.Hand

end
-- ==== Proof.Equal.lean ====
/-
  The two runs leave one array: entry by entry the reference's result is the kernel's, under the precondition.
-/
module

public import proofs.«01_k».proof.Proof.Reference
public import proofs.«01_k».proof.Proof.Run
public import proofs.«01_k».proof.Defs

@[expose] public section

set_option maxRecDepth 16384

noncomputable section

namespace Cert.ReferenceIdeal.Hand

open Cert.ReferenceIdeal Cert.ReferenceIdeal.Gen Cert.ReferenceIdeal.Value Cert.Margin Cert.Words
open Idealize.ShloMosaic Idealize.ShloMosaic.TcCoe Idealize.SL.Sem Idealize.ShloMosaic.StableHlo
open Cert.KernelIdeal.Hand (rowMargin outArr)

/-- The reference's result, of its memory at the start. -/
def result (V : Valuation τ sig (Elt Ideal)) : FVec Ideal S1024x100000 .f32 :=
  mulf (select (broadcastInDim S1024x100000 ![0, 1] bcast_S1024x1_S1024x100000_0_1 (broadcastInDim S1024x1 ![0] bcast_S1024_S1024x1_0 (res_main_v17 V)))
    (subf (res_main_v120 V) (mulf (res_main_v23 V) (broadcastInDim S1024x100000 ![0, 1] bcast_S1024x1_S1024x100000_0_1
      (addf (broadcastInDim S1024x1 ![] bcast_S_S1024x1 (constant S_ .f32 0x3ECCCCCD#32))
        (mulf (broadcastInDim S1024x1 ![] bcast_S_S1024x1 (constant S_ .f32 0x3ECCCCCD#32)) (res_main_v15 V))))))
    (res_main_v120 V)) (broadcastInDim S1024x100000 ![] bcast_S_S1024x100000 (constant S_ .f32 0x42800000#32))

variable {V : Valuation τ sig (Elt Ideal)} {r : Fin 1024} {q : Fin 100000} {x : ℝ}

/-- One entry of it is the kernel's entry: at its row's label, and at any other column. -/
theorem result_entry (hL : labels V (ix1 r) ≠ 4294967295#32) (hx : (cosines V (ix2 r q) : EReal) = (x : EReal)) (h : low ≤ x) (h1 : x ≤ 1) :
    (result V (ix2 r q) : EReal)
      = ((if BitVec.ofNat 32 q.val = labels V (ix1 r) then atLabel (rowMargin (norms V) r) x else offLabel x : ℝ) : EReal) := by
  have e : ∀ a b d : EReal, res_main_v120 (F := Ideal) V (ix2 r q) = a → res_main_v23 (F := Ideal) V (ix2 r q) = b →
      res_main_v15 (F := Ideal) V (ix2 r 0) = d → (result V (ix2 r q) : EReal)
        = Scalar.select (res_main_v17 (F := Ideal) V (ix1 r)) (a - b * (Ideal.ofBits .f32 0x3ECCCCCD#32 + Ideal.ofBits .f32 0x3ECCCCCD#32 * d)) a
            * Ideal.ofBits .f32 0x42800000#32 := by
    rintro _ _ _ rfl rfl rfl
    pointwise [result]
  rw [e _ _ _ (shifted_number hL hx h h1) (mask_number hL) (margin_real V r), select_yes (class_bit hL), word_pM, word_64]
  simp only [← EReal.coe_mul, ← EReal.coe_add, ← EReal.coe_sub]
  refine congrArg _ ?_
  unfold shiftAt
  split_ifs
  · rw [one_mul]; exact atLabel_eq _ h h1
  · rw [zero_mul]; exact offLabel_eq x

end Cert.ReferenceIdeal.Hand

namespace Cert.KernelIdeal.Hand

open Cert.KernelIdeal Cert.KernelIdeal.Gen Cert.Margin Cert.Words
open Idealize.ShloMosaic Idealize.ShloMosaic.TcCoe Idealize.SL.Sem Idealize.ShloMosaic.StableHlo

/-- An index of a matrix is its row and its column. -/
theorem index_eq (p : S1024x100000.Idx) : ∃ (r : Fin 1024) (q : Fin 100000), p = ix2 r q :=
  ⟨p 0, p 1, by funext k; fin_cases k <;> rfl⟩

/-- Under the precondition every cosine in memory is a real number. -/
theorem cosines_real {m : (ℓ : Loc nD τ sig) → Buf (Elt Ideal) ℓ} (h : Pre_KernelIdeal_cosines_and_labels m) (c : Dev nD)
    (p : S1024x100000.Idx) : (cosArr m c p : EReal) = ((cosArr m c p : EReal).toReal : ℝ) := by
  obtain ⟨r, q, rfl⟩ := index_eq p
  obtain ⟨x, hx, -, -⟩ := (Pre_cosines_and_labels.Hand.reads (h c)).1 r q
  rw [show (cosArr m c (ix2 r q) : EReal) = (x : EReal) from hx, EReal.toReal_coe]

end Cert.KernelIdeal.Hand

namespace Cert.Proof

open Cert.Margin Cert.Words
open Idealize.ShloMosaic Idealize.ShloMosaic.TcCoe Idealize.SL.Sem Idealize.ShloMosaic.StableHlo

/-- The kernel's result is the reference's, at the real numbers. -/
theorem algebraic : algebraic_KernelIdeal_ReferenceIdeal_pre_cosines_and_labels := by
  intro m g m' g' hpre hargs
  refine ⟨KernelIdeal.Hand.outOf m, KernelIdeal.Hand.run_main m g (KernelIdeal.Hand.cosines_real hpre), ?_⟩
  refine (θ_run ReferenceIdeal.defs _ _).mono (fun r h c => ⟨(h c).1.trans ?_, (h c).2⟩) (ReferenceIdeal.Value.run (F := Ideal) m' g')
  obtain ⟨hA, hL⟩ := Pre_cosines_and_labels.Hand.reads (hpre c)
  obtain ⟨e0, e1, e2⟩ := hargs c
  change ReferenceIdeal.Hand.result (launchContents m' c) = _
  funext p
  obtain ⟨r, q, rfl⟩ := KernelIdeal.Hand.index_eq p
  obtain ⟨x, hx, h, h1⟩ := hA r q
  have eA : ReferenceIdeal.Hand.cosines (launchContents m' c) = KernelIdeal.Hand.cosArr m c := e0
  have eN : ReferenceIdeal.Hand.norms (launchContents m' c) = KernelIdeal.Hand.normArr m c := e1
  have eL : ∀ r, ReferenceIdeal.Hand.labels (launchContents m' c) (ix1 r) = KernelIdeal.Hand.labelArr m c (ix2 r 0) := fun r => congrFun e2 (ix1 r)
  refine (ReferenceIdeal.Hand.result_entry (x := x) (by rw [eL]; exact hL r) (by rw [eA]; exact hx) h h1).trans ?_
  rw [eL, eN]
  change _ = KernelIdeal.Hand.outArr _ _ _ (ix2 r q)
  unfold KernelIdeal.Hand.outArr
  rw [show (KernelIdeal.Hand.cosArr m c (ix2 r q) : EReal) = (x : EReal) from hx, EReal.toReal_coe, apply_ite ((↑) : ℝ → EReal)]
  rfl

end Cert.Proof

end
-- ==== Proof.Close.lean ====
/-
  How far the kernel's polynomial and its clip stand from the cosine of the shifted, clipped angle: the polynomials from the
  cosine and sine, the clip's bounds from those of 0.001, and the case where the kernel's test of the clip and the angle's
  differ.
-/
module

public import proofs.«01_k».proof.Proof.Domain
public import Mathlib.Analysis.SpecialFunctions.Trigonometric.Basic
public import Mathlib.Analysis.Complex.Trigonometric

@[expose] public section

noncomputable section

namespace Cert.Margin

open Cert.Words

variable {g x : ℝ}

/-! ## The polynomials -/

/-- The partial sum of the exponential series at `g i`, to the power 7: its real and imaginary parts. -/
theorem exp_sum (g : ℝ) : (∑ n ∈ Finset.range 8, ((g : ℂ) * Complex.I) ^ n / (n.factorial : ℂ))
    = ((1 - g ^ 2 / 2 + g ^ 4 / 24 - g ^ 6 / 720 : ℝ) : ℂ) + ((g - g ^ 3 / 6 + g ^ 5 / 120 - g ^ 7 / 5040 : ℝ) : ℂ) * Complex.I := by
  have h2 : Complex.I ^ 2 = -1 := Complex.I_sq
  have h3 : Complex.I ^ 3 = -Complex.I := Complex.I_pow_three
  have h4 : Complex.I ^ 4 = 1 := Complex.I_pow_four
  have h5 : Complex.I ^ 5 = Complex.I := by rw [pow_succ, h4, one_mul]
  have h6 : Complex.I ^ 6 = -1 := by rw [pow_succ, h5, ← h2, pow_two]
  have h7 : Complex.I ^ 7 = -Complex.I := by rw [pow_succ, h6]; ring
  simp only [Finset.sum_range_succ, Finset.sum_range_zero, mul_pow, h2, h3, h4, h5, h6, h7, Nat.factorial]
  push_cast
  ring

/-- The series' remainder for shifts of at most `pM`. -/
theorem exp_near (hg : |g| ≤ pM) : ‖Complex.exp (g * Complex.I) - ∑ n ∈ Finset.range 8, ((g : ℂ) * Complex.I) ^ n / (n.factorial : ℂ)‖ ≤ 2 / 100000000 := by
  have hp : pM ≤ 0.4001 := by unfold pM; norm_num
  have hn : ‖(g : ℂ) * Complex.I‖ = |g| := by rw [norm_mul, Complex.norm_I, mul_one, Complex.norm_real, Real.norm_eq_abs]
  have h := Complex.exp_bound (x := (g : ℂ) * Complex.I) (by rw [hn]; linarith) (n := 8) (by norm_num)
  rw [hn] at h
  refine h.trans ?_
  have h8 : |g| ^ 8 ≤ 0.4001 ^ 8 := pow_le_pow_left₀ (abs_nonneg g) (hg.trans hp) 8
  have hk : (0 : ℝ) ≤ ((Nat.succ 8 : ℕ) : ℝ) * ((Nat.factorial 8 : ℕ) * (8 : ℕ) : ℝ)⁻¹ := by positivity
  refine (mul_le_mul_of_nonneg_right h8 hk).trans ?_
  norm_num [Nat.factorial]

theorem cos_series (hg : |g| ≤ pM) : |Real.cos g - (1 - g ^ 2 / 2 + g ^ 4 / 24 - g ^ 6 / 720)| ≤ 2 / 100000000 := by
  have h := (Complex.abs_re_le_norm _).trans (exp_near hg)
  rw [exp_sum, Complex.sub_re, Complex.exp_ofReal_mul_I_re] at h
  simpa [-Complex.ofReal_sub, -Complex.ofReal_add] using h

theorem sin_series (hg : |g| ≤ pM) : |Real.sin g - (g - g ^ 3 / 6 + g ^ 5 / 120 - g ^ 7 / 5040)| ≤ 2 / 100000000 := by
  have h := (Complex.abs_im_le_norm _).trans (exp_near hg)
  rw [exp_sum, Complex.sub_im, Complex.exp_ofReal_mul_I_im] at h
  simpa [-Complex.ofReal_sub, -Complex.ofReal_add] using h

/-- A power of the shift times a small number is small. -/
theorem small_term (hg : |g| ≤ pM) (n : ℕ) {e d : ℝ} (he : |e| ≤ d) : |e * g ^ n| ≤ d := by
  have hp : pM ≤ 1 := by unfold pM; norm_num
  rw [abs_mul, abs_pow]
  calc |e| * |g| ^ n ≤ d * 1 := mul_le_mul he (pow_le_one₀ (abs_nonneg g) (hg.trans hp)) (pow_nonneg (abs_nonneg g) n) ((abs_nonneg e).trans he)
    _ = d := mul_one d

/-- The kernel's even polynomial is the cosine of the shift, up to 3e-8. -/
theorem even_near (hg : |g| ≤ pM) : |even g - Real.cos g| ≤ 3 / 100000000 := by
  have h := abs_le.mp (cos_series hg)
  have h4 := abs_le.mp (small_term hg 4 (e := c24 - 1 / 24) (d := 2 / 1000000000) (by unfold c24; rw [abs_le]; norm_num))
  have h6 := abs_le.mp (small_term hg 6 (e := c720 - 1 / 720) (d := 2 / 1000000000) (by unfold c720; rw [abs_le]; norm_num))
  have e : even g = 1 - g ^ 2 / 2 + g ^ 4 / 24 - g ^ 6 / 720 + (c24 - 1 / 24) * g ^ 4 - (c720 - 1 / 720) * g ^ 6 := by unfold even; ring
  rw [e, abs_le]
  constructor <;> linarith [h.1, h.2, h4.1, h4.2, h6.1, h6.2]

/-- The kernel's odd polynomial is the sine of the shift, up to 4e-8. -/
theorem odd_near (hg : |g| ≤ pM) : |odd g - Real.sin g| ≤ 4 / 100000000 := by
  have h := abs_le.mp (sin_series hg)
  have h3 := abs_le.mp (small_term hg 3 (e := c6 - 1 / 6) (d := 1 / 100000000) (by unfold c6; rw [abs_le]; norm_num))
  have h5 := abs_le.mp (small_term hg 5 (e := c120 - 1 / 120) (d := 2 / 1000000000) (by unfold c120; rw [abs_le]; norm_num))
  have h7 := abs_le.mp (small_term hg 7 (e := c5040 - 1 / 5040) (d := 2 / 1000000000) (by unfold c5040; rw [abs_le]; norm_num))
  have e : odd g = g - g ^ 3 / 6 + g ^ 5 / 120 - g ^ 7 / 5040 - (c6 - 1 / 6) * g ^ 3 + (c120 - 1 / 120) * g ^ 5 - (c5040 - 1 / 5040) * g ^ 7 := by
    unfold odd; ring
  rw [e, abs_le]
  constructor <;> linarith [h.1, h.2, h3.1, h3.2, h5.1, h5.2, h7.1, h7.2]

/-! ## The clip's bounds -/

theorem eps_range : 0 < eps ∧ eps ≤ 0.0011 := by unfold eps; norm_num

/-- The kernel's cosine and sine of `0.001`. -/
theorem kCos_near : |kCos - Real.cos eps| ≤ 3 / 100000000 := by
  have h := abs_le.mp (Real.cos_bound (x := eps) (by rw [abs_of_pos eps_range.1]; linarith [eps_range.2]))
  rw [abs_of_pos eps_range.1] at h
  have e : |kCos - (1 - eps ^ 2 / 2)| + eps ^ 4 * (5 / 96) ≤ 3 / 100000000 := by
    unfold kCos eps; rw [abs_of_nonneg] <;> norm_num
  have := abs_le.mp (le_refl |kCos - (1 - eps ^ 2 / 2)|)
  rw [abs_le]
  constructor <;> linarith [h.1, h.2, this.1, this.2]
theorem kSin_near : |kSin - Real.sin eps| ≤ 1 / 100000000 := by
  have h := abs_le.mp (Real.sin_bound (x := eps) (by rw [abs_of_pos eps_range.1]; linarith [eps_range.2]))
  rw [abs_of_pos eps_range.1] at h
  have e : |kSin - (eps - eps ^ 3 / 6)| ≤ 5 / 1000000000 ∧ eps ^ 5 / 100 ≤ 5 / 1000000000 := by
    unfold kSin eps; rw [abs_le]; norm_num
  have := abs_le.mp e.1
  rw [abs_le]
  constructor <;> linarith [h.1, h.2, this.1, this.2, e.2]
theorem sin_eps_le : Real.sin eps ≤ 0.0012 := by
  have : kSin ≤ 0.0011 := by unfold kSin; norm_num
  linarith [(abs_le.mp kSin_near).1]

/-- A product whose factors are near has its value near. -/
theorem mul_near {a b p q d e : ℝ} (h : |a - b| ≤ d) (h' : |p - q| ≤ e) (ha : |p| ≤ 2) (hb : |b| ≤ 1) : |a * p - b * q| ≤ 2 * d + e := by
  have e1 : a * p - b * q = (a - b) * p + b * (p - q) := by ring
  have hd : 0 ≤ d := (abs_nonneg _).trans h
  have he : 0 ≤ e := (abs_nonneg _).trans h'
  rw [e1]
  refine (abs_add_le _ _).trans ?_
  rw [abs_mul, abs_mul]
  have u1 : |a - b| * |p| ≤ d * 2 := mul_le_mul h ha (abs_nonneg _) hd
  have u2 : |b| * |p - q| ≤ 1 * e := mul_le_mul hb h' (abs_nonneg _) zero_le_one
  linarith

/-- A number near a cosine or sine is at most 2 in size. -/
theorem size_near {p q d : ℝ} (h : |p - q| ≤ d) (hd : d ≤ 1) (hq : |q| ≤ 1) : |p| ≤ 2 := by
  have := abs_le.mp h; have := abs_le.mp hq
  rw [abs_le]; constructor <;> linarith

/-- The kernel's bound on the cosine is the cosine of `0.001 - g`. -/
theorem bound_near (hg : |g| ≤ pM) : |kCos * even g + kSin * odd g - Real.cos (eps - g)| ≤ 15 / 100000000 := by
  have h1 := abs_le.mp (mul_near kCos_near (even_near hg) (size_near (even_near hg) (by norm_num) (Real.abs_cos_le_one g)) (Real.abs_cos_le_one eps))
  have h2 := abs_le.mp (mul_near kSin_near (odd_near hg) (size_near (odd_near hg) (by norm_num) (Real.abs_sin_le_one g)) (Real.abs_sin_le_one eps))
  rw [Real.cos_sub, abs_le]
  constructor <;> linarith [h1.1, h1.2, h2.1, h2.2]

/-- The kernel's shifted cosine is the cosine of the shifted angle. -/
theorem shifted_near (hx : -1 ≤ x) (hx1 : x ≤ 1) (hg : |g| ≤ pM) :
    |x * even g - √(1 - x ^ 2) * odd g - Real.cos (Real.arccos x + g)| ≤ 7 / 100000000 := by
  have z : ∀ y : ℝ, |y - y| ≤ 0 := fun y => by rw [sub_self, abs_zero]
  have hs : |√(1 - x ^ 2)| ≤ 1 := by rw [← Real.sin_arccos]; exact Real.abs_sin_le_one _
  have h1 := abs_le.mp (mul_near (z x) (even_near hg) (size_near (even_near hg) (by norm_num) (Real.abs_cos_le_one g)) (abs_le.mpr ⟨hx, hx1⟩))
  have h2 := abs_le.mp (mul_near (z √(1 - x ^ 2)) (odd_near hg) (size_near (odd_near hg) (by norm_num) (Real.abs_sin_le_one g)) hs)
  rw [Real.cos_add, Real.cos_arccos hx hx1, Real.sin_arccos, abs_le]
  constructor <;> linarith [h1.1, h1.2, h2.1, h2.2]

/-! ## Where the two tests of the clip differ -/

/-- An angle of at most 0.402 has cosine at least 0.9. -/
theorem cos_base {b : ℝ} (h0 : 0 ≤ b) (h : b ≤ 0.402) : 0.9 ≤ Real.cos b := by
  have e := (abs_le.mp (Real.cos_bound (x := b) (by rw [abs_of_nonneg h0]; linarith))).1
  rw [abs_of_nonneg h0] at e
  have h2 : b ^ 2 ≤ 0.402 ^ 2 := pow_le_pow_left₀ h0 h 2
  have h4 : b ^ 4 ≤ 0.402 ^ 4 := pow_le_pow_left₀ h0 h 4
  norm_num at h2 h4
  linarith

/-- If going from the angle `b` on by `u` changes the cosine by almost nothing, then `u` is so small that going by it from
    `0.001`, to either side, changes the cosine by less than 1e-6. -/
theorem step_small {b u : ℝ} (hb0 : 0 ≤ b) (hb : b ≤ 0.402) (hu : 0 ≤ u) (hup : u ≤ Real.pi)
    (h : Real.cos b - Real.cos (b + u) ≤ 15 / 100000000) :
    |Real.cos (eps + u) - Real.cos eps| ≤ 1 / 1000000 ∧ |Real.cos (eps - u) - Real.cos eps| ≤ 1 / 1000000 := by
  have hc := cos_base hb0 hb
  have hsb : 0 ≤ Real.sin b := Real.sin_nonneg_of_nonneg_of_le_pi hb0 (by linarith [Real.two_le_pi])
  have hsu : 0 ≤ Real.sin u := Real.sin_nonneg_of_nonneg_of_le_pi hu hup
  have hse : 0 ≤ Real.sin eps := Real.sin_nonneg_of_nonneg_of_le_pi eps_range.1.le (by linarith [Real.two_le_pi, eps_range.2])
  have hse' := sin_eps_le
  have hce := abs_le.mp (Real.abs_cos_le_one eps)
  have hcu := Real.cos_le_one u
  have hq := Real.sin_sq_add_cos_sq u
  rw [Real.cos_add] at h
  rw [Real.cos_add, Real.cos_sub]
  generalize Real.cos u = c at *
  generalize Real.sin u = s at *
  have h1 : 0.9 * (1 - c) ≤ Real.cos b * (1 - c) := mul_le_mul_of_nonneg_right hc (by linarith)
  have h2 : 0 ≤ Real.sin b * s := mul_nonneg hsb hsu
  have h3 : 1 - c ≤ 17 / 100000000 := by linarith
  have h4 : s ≤ 6 / 10000 := by
    by_contra hn
    nlinarith
  have h5 : Real.sin eps * s ≤ 0.0012 * (6 / 10000) := mul_le_mul hse' h4 hsu (by norm_num)
  have h6 : 0 ≤ Real.sin eps * s := mul_nonneg hse hsu
  have h7 : |Real.cos eps * (1 - c)| ≤ 17 / 100000000 := by
    rw [abs_mul, abs_of_nonneg (sub_nonneg.mpr hcu)]
    calc |Real.cos eps| * (1 - c) ≤ 1 * (1 - c) := mul_le_mul_of_nonneg_right (Real.abs_cos_le_one eps) (by linarith)
      _ ≤ 17 / 100000000 := by linarith
  have h8 := abs_le.mp h7
  constructor <;> rw [abs_le] <;> constructor <;> nlinarith [h8.1, h8.2]

/-- The kernel's cosine at a label, clipped or not, is the cosine of the clipped angle, up to 1.1e-6. -/
theorem clip_near (hx : -1 ≤ x) (hx1 : x ≤ 1) (hg : |g| ≤ pM) :
    |(if bound g < x then kCos else x * even g - √(1 - x ^ 2) * odd g) - Real.cos (max eps (Real.arccos x + g))| ≤ 11 / 10000000 := by
  have hp : pM ≤ 0.4001 := by unfold pM; norm_num
  have hgl := abs_le.mp hg
  have he := eps_range
  have hk := abs_le.mp kCos_near
  have hs := abs_le.mp (shifted_near hx hx1 hg)
  have hb := abs_le.mp (bound_near hg)
  have h0 := Real.arccos_nonneg x
  have hpi := Real.arccos_le_pi x
  have hxc : Real.cos (Real.arccos x) = x := Real.cos_arccos hx hx1
  have h2 := Real.two_le_pi
  generalize Real.arccos x = a at *
  by_cases hc : bound g < x
  · rw [if_pos hc]
    have hge : g < eps := by
      by_contra hn
      unfold bound at hc
      rw [if_neg hn] at hc
      linarith
    unfold bound at hc
    rw [if_pos hge] at hc
    by_cases ha : a + g ≤ eps
    · rw [max_eq_left ha, abs_le]; constructor <;> linarith [hk.1, hk.2]
    · have ha' := le_of_not_ge ha
      rw [max_eq_right ha']
      have := step_small (b := eps - g) (u := a - (eps - g)) (by linarith) (by linarith [hgl.1]) (by linarith) (by linarith)
        (by rw [show eps - g + (a - (eps - g)) = a from by ring, hxc]; linarith [hb.1])
      rw [show eps + (a - (eps - g)) = a + g from by ring] at this
      have := abs_le.mp this.1
      rw [abs_le]; constructor <;> linarith [hk.1, hk.2]
  · rw [if_neg hc]
    by_cases ha : a + g ≤ eps
    · rw [max_eq_left ha]
      rcases eq_or_lt_of_le ha with heq | hlt
      · rw [heq] at hs; rw [abs_le]; constructor <;> linarith [hs.1, hs.2]
      · have hge : g < eps := by linarith
        unfold bound at hc
        rw [if_pos hge] at hc
        have := step_small (b := a) (u := eps - g - a) h0 (by linarith [hgl.1]) (by linarith) (by linarith [hgl.1])
          (by rw [show a + (eps - g - a) = eps - g from by ring, hxc]; linarith [hb.2])
        rw [show eps - (eps - g - a) = a + g from by ring] at this
        have := abs_le.mp this.2
        rw [abs_le]; constructor <;> linarith [hs.1, hs.2]
    · rw [max_eq_right (le_of_not_ge ha), abs_le]; constructor <;> linarith [hs.1, hs.2]

/-! ## The two entries -/

/-- At a label. -/
theorem atLabel_near {t : ℝ} (hx : -1 ≤ x) (hx1 : x ≤ 1) (ht : -1 ≤ t) (ht1 : t ≤ 1) :
    |atLabel t x - (Real.cos (max eps (Real.arccos x + shift t)) - (pM + pM * t)) * 64| ≤ tol := by
  have hg : |shift t| ≤ pM := abs_le.mpr ⟨shift_ge ht1, shift_le ht⟩
  have h := abs_le.mp (clip_near hx hx1 hg)
  have hm : max (1 - x * x) 0 = 1 - x ^ 2 := by rw [max_eq_left (by nlinarith), pow_two]
  have htol : 64 * (11 / 10000000) ≤ tol := by unfold tol; norm_num
  unfold atLabel
  rw [hm, abs_le]
  constructor <;> linarith [h.1, h.2]

/-- Off the labels. -/
theorem offLabel_near (hx : -1 ≤ x) (hx1 : x ≤ 1) : |offLabel x - (Real.cos (max eps (Real.arccos x + 0)) - 0) * 64| ≤ tol := by
  have hk := abs_le.mp kCos_near
  have htol : 64 * (3 / 100000000) ≤ tol := by unfold tol; norm_num
  have he := eps_range
  have h2 := Real.two_le_pi
  have hxc : Real.cos (Real.arccos x) = x := Real.cos_arccos hx hx1
  have e : Real.cos (max eps (Real.arccos x)) = min (Real.cos eps) x := by
    rcases le_total eps (Real.arccos x) with h | h
    · have := Real.cos_le_cos_of_nonneg_of_le_pi he.1.le (Real.arccos_le_pi x) h
      rw [hxc] at this
      rw [max_eq_right h, min_eq_right this, hxc]
    · have := Real.cos_le_cos_of_nonneg_of_le_pi (Real.arccos_nonneg x) (by linarith) h
      rw [hxc] at this
      rw [max_eq_left h, min_eq_left this]
  rw [add_zero, e, sub_zero]
  unfold offLabel
  rw [abs_le]
  rcases le_total x kCos with h | h <;> rcases le_total x (Real.cos eps) with h' | h'
  · rw [min_eq_left h, min_eq_right h']; constructor <;> linarith
  · rw [min_eq_left h, min_eq_left h']; constructor <;> linarith
  · rw [min_eq_right h, min_eq_right h']; constructor <;> linarith
  · rw [min_eq_right h, min_eq_left h']; constructor <;> linarith

end Cert.Margin

end
-- ==== Proof.Near.lean ====
/-
  The tolerance predicate: one entry of reference.py's result as a function of real numbers, and the kernel's array within the
  tolerance of it.
-/
module

public import proofs.«01_k».proof.Proof.Equal
public import proofs.«01_k».proof.Proof.Close
public import proofs.«01_k».proof.Post_near_exact

@[expose] public section

set_option maxRecDepth 16384

noncomputable section

namespace Cert.Post_near_exact.Hand

open Cert.Post_near_exact Cert.Margin Cert.Words
open Cert.KernelIdeal.Hand (rowMargin)
open Idealize.ShloMosaic

/-- The shape relations the tolerance predicate takes: the reference's. -/
instance facts : Cert.Post_near_exact.Facts where
  bcast_S_S1024x1 := ReferenceIdeal.Gen.bcast_S_S1024x1
  reducesTo_S1024x1_S_d0_1 := ReferenceIdeal.Gen.reducesTo_S1024x1_S_d0_1
  h_S_ := ReferenceIdeal.Gen.h_S_
  bcast_S_S1x1 := ReferenceIdeal.Gen.bcast_S_S1x1
  bcast_S1x1_S1024x1_0_1 := ReferenceIdeal.Gen.bcast_S1x1_S1024x1_0_1
  bcast_S_S1024 := ReferenceIdeal.Gen.bcast_S_S1024
  bcast_S1024_S1024x1_0 := ReferenceIdeal.Gen.bcast_S1024_S1024x1_0
  bcast_S1024x1_S1024x100000_0_1 := ReferenceIdeal.Gen.bcast_S1024x1_S1024x100000_0_1
  bcast_S1x100000_S1024x100000_0_1 := ReferenceIdeal.Gen.bcast_S1x100000_S1024x100000_0_1
  bcast_S_S1024x100000 := ReferenceIdeal.Gen.bcast_S_S1024x100000

/-- The predicate reads the norms only through a standardised column whose scaled clip is the kernel's margin. -/
theorem margin_part (A : FVec Ideal S1024x100000 .f32) (N : FVec Ideal S1024x1 .f32) (L : IVec S1024 32) (X : FVec Ideal S1024x100000 .f32) :
    ∃ Z : FVec Ideal S1024x1 .f32, fn (F := Ideal) A N L X = fn_part1 (F := Ideal) A L X Z (constant S_ .f32 0x3EAA7EFA#32)
      ∧ ∀ r : Fin 1024, (min (1 : EReal) (max (Ideal.ofBits .f32 0xBF800000#32) (Z (ix2 r 0) * Ideal.ofBits .f32 0x3EAA7EFA#32)) : EReal)
          = KernelIdeal.Gen.k0_pay2 (F := Ideal) N (ix2 r 0) := by
  refine ⟨_, rfl, fun r => ?_⟩
  pointwise [fn_clip, fn_std, fn_var, fn_where, KernelIdeal.Gen.k0_pay2, id]
  rw [degrees_of_freedom, if_pos degrees_pos]
  simp only [Fin.sum_univ_one, Fin.isValue]
  rfl

/-- The absolute value of a real. -/
theorem abs_coe (y : ℝ) : (FloatOps.absf (F := Ideal) (φ := .f32) (y : EReal) : EReal) = ((|y| : ℝ) : EReal) := by
  change max (y : EReal) (-(y : EReal)) = _
  rw [← EReal.coe_neg, ← coe_max]; rfl

/-- One entry of the predicate: it asks that the result be within the tolerance of the cosine of the shifted, clipped angle, less
    the margin, times 64. -/
theorem entry {A : FVec Ideal S1024x100000 .f32} {N : FVec Ideal S1024x1 .f32} {L : IVec S1024 32} {X : FVec Ideal S1024x100000 .f32}
    {r : Fin 1024} {q : Fin 100000} {x y d : ℝ} (hL : L (ix1 r) ≠ 4294967295#32) (hx : (A (ix2 r q) : EReal) = (x : EReal))
    (h : low ≤ x) (h1 : x ≤ 1) (hy : (X (ix2 r q) : EReal) = (y : EReal))
    (hd : d = if BitVec.ofNat 32 q.val = L (ix1 r) then 1 else 0)
    (hn : |y - (Real.cos (max eps (Real.arccos x + d * shift (rowMargin N r))) - d * (pM + pM * rowMargin N r)) * 64| ≤ tol) :
    fn (F := Ideal) A N L X (ix2 r q) = 1#1 := by
  obtain ⟨Z, e, hZ⟩ := margin_part A N L X
  have hb : IntOp.cmpi .ne (L (ix1 r)) 4294967295#32 = 1#1 := by
    change BitVec.ofBool (L (ix1 r) != 4294967295#32) = _
    rw [bne_iff_ne.mpr hL]; rfl
  have hm := (hZ r).trans (KernelIdeal.Hand.margin_coe N r)
  have ho := onehot_number (L (ix1 r)) q.val hL
  rw [← hd] at ho
  have hg : d * shift (rowMargin N r) ≤ pM := by
    rw [hd]; split_ifs
    · rw [one_mul]; exact shift_le (KernelIdeal.Hand.margin_mem N r).1
    · rw [zero_mul]; unfold pM; norm_num
  have hp : max eps (Real.arccos x + d * shift (rowMargin N r)) ≤ piEps :=
    max_le (by unfold eps piEps; norm_num) (angle_below h h1 hg)
  rw [e]
  pointwise [fn_part1, fn_part2, fn_clip_0, fn_clip_2, fn_where_1, fn_where_3, fn_one_hot, id]
  rw [hm, ho, hb, select_yes rfl, select_yes rfl, hx, hy, acos_coe h h1, word_piEps, word_eps, word_nM, word_pM, word_64, word_tol]
  simp only [← EReal.coe_mul, ← EReal.coe_add, ← coe_max, ← coe_min]
  rw [min_eq_right (by exact hp), cos_coe, ← EReal.coe_sub, ← EReal.coe_mul, ← EReal.coe_sub, abs_coe]
  exact congrArg BitVec.ofBool (decide_eq_true (EReal.coe_le_coe_iff.mpr hn))

end Cert.Post_near_exact.Hand

namespace Cert.Proof

open Cert.Margin Cert.Words Cert.KernelIdeal.Hand
open Idealize.ShloMosaic Idealize.ShloMosaic.TcCoe Idealize.SL.Sem

/-- Every entry of the kernel's array is within the tolerance of reference.py's. -/
theorem array_near {m : (ℓ : Loc KernelIdeal.nD KernelIdeal.τ KernelIdeal.sig) → Buf (Elt Ideal) ℓ}
    (hpre : Pre_KernelIdeal_cosines_and_labels m) (c : Dev KernelIdeal.nD) :
    Post_near_exact.fn (F := Ideal) (cosArr m c) (normArr m c) (fun y => labelArr m c (ix2 (y 0) 0)) (outOf m c) = fun _ => 1#1 := by
  obtain ⟨hA, hL⟩ := Pre_cosines_and_labels.Hand.reads (hpre c)
  funext p
  obtain ⟨r, q, rfl⟩ := index_eq p
  obtain ⟨x, hx, h, h1⟩ := hA r q
  have ht := margin_mem (normArr m c) r
  have hx' := low_neg_one h
  by_cases e : BitVec.ofNat 32 q.val = labelArr m c (ix2 r 0)
  · refine Post_near_exact.Hand.entry (x := x) (y := atLabel (rowMargin (normArr m c) r) x) (d := 1) (hL r) hx h h1 ?_ (if_pos e).symm ?_
    · refine (if_pos e).trans ?_
      rw [show (cosArr m c (ix2 r q) : EReal) = (x : EReal) from hx, EReal.toReal_coe]; rfl
    · rw [one_mul, one_mul]; exact atLabel_near hx' h1 ht.1 ht.2
  · refine Post_near_exact.Hand.entry (x := x) (y := offLabel x) (d := 0) (hL r) hx h h1 ?_ (if_neg e).symm ?_
    · refine (if_neg e).trans ?_
      rw [show (cosArr m c (ix2 r q) : EReal) = (x : EReal) from hx, EReal.toReal_coe]
    · rw [zero_mul, zero_mul]; exact offLabel_near hx' h1

/-- The kernel runs, its arguments end unchanged, and its result is within the tolerance of reference.py's. -/
theorem near : holds_KernelIdeal_near_exact_pre_cosines_and_labels := by
  intro m g hpre
  refine (θ_run KernelIdeal.defs _ _).mono (fun r h c => ⟨(h c).2.1, (h c).2.2.1, (h c).2.2.2, ?_⟩) (run_main m g (cosines_real hpre))
  rw [(h c).1]
  refine Eq.trans ?_ (array_near hpre c)
  refine congrArg (fun L => Post_near_exact.fn (F := Ideal) (cosArr m c) (normArr m c) L (outOf m c)) ?_
  funext y
  exact congrArg (m ((c.tc : Thread KernelIdeal.nD KernelIdeal.τ).loc KernelIdeal.main_arg2)) (funext fun k => by fin_cases k; rfl)

end Cert.Proof

end
-- ==== Proof.lean ====
module

public import proofs.«01_k».proof.Defs
public import proofs.«01_k».proof.Proof.Frames
public import proofs.«01_k».proof.Proof.Equal
public import proofs.«01_k».proof.Proof.Near
public import Idealize.ShloMosaic.Adequacy
public import Idealize.ShloMosaic.Init

@[expose] public section

noncomputable section

namespace Cert.Proof

open Idealize.ShloMosaic Idealize.SL.Sem Cert.Kernel

/-- Everything this certificate claims: the frames, the program kept by the reading at the real numbers, and the result equal
    to the reference's and within the tolerance of reference.py's. -/
theorem claim : Cert.Claim :=
  ⟨Cert.Kernel.Gen.facts, Cert.KernelIdeal.Gen.facts, Cert.ReferenceIdeal.Gen.facts, Cert.Pre_cosines_and_labels.Gen.facts,
    Cert.Post_near_exact.Hand.facts, frame_p, frame_pi, frame_pi_pre, frame_r, frame_r_pre, trivial, algebraic, near⟩

end Cert.Proof

end
